-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v15_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x3584 : Shape := ⟨3, ![16, 4096, 3584]⟩
abbrev S16x4096x28 : Shape := ⟨3, ![16, 4096, 28]⟩
abbrev S3584x2x4864 : Shape := ⟨3, ![3584, 2, 4864]⟩
abbrev S28x2x38 : Shape := ⟨3, ![28, 2, 38]⟩
abbrev S4864x3584 : Shape := ⟨2, ![4864, 3584]⟩
abbrev S38x28 : Shape := ⟨2, ![38, 28]⟩
abbrev S3584x2x19x256 : Shape := ⟨4, ![3584, 2, 19, 256]⟩
abbrev S3584x19x2x256 : Shape := ⟨4, ![3584, 19, 2, 256]⟩
abbrev S3584x9728 : Shape := ⟨2, ![3584, 9728]⟩
abbrev S28x2x38x128 : Shape := ⟨4, ![28, 2, 38, 128]⟩
abbrev S28x2x4864 : Shape := ⟨3, ![28, 2, 4864]⟩
abbrev S28x2x19x256 : Shape := ⟨4, ![28, 2, 19, 256]⟩
abbrev S28x19x2x256 : Shape := ⟨4, ![28, 19, 2, 256]⟩
abbrev S28x9728 : Shape := ⟨2, ![28, 9728]⟩
abbrev S38x28x128 : Shape := ⟨3, ![38, 28, 128]⟩
abbrev S38x3584 : Shape := ⟨2, ![38, 3584]⟩
abbrev S19x2x3584 : Shape := ⟨3, ![19, 2, 3584]⟩
abbrev S65536x3584 : Shape := ⟨2, ![65536, 3584]⟩
abbrev S65536x28 : Shape := ⟨2, ![65536, 28]⟩
abbrev S65536x9728 : Shape := ⟨2, ![65536, 9728]⟩
abbrev S512x3584 : Shape := ⟨2, ![512, 3584]⟩
abbrev S512x28 : Shape := ⟨2, ![512, 28]⟩
abbrev S3584x512 : Shape := ⟨2, ![3584, 512]⟩
abbrev S28x512 : Shape := ⟨2, ![28, 512]⟩
abbrev S256x3584 : Shape := ⟨2, ![256, 3584]⟩
abbrev S1x2x3584 : Shape := ⟨3, ![1, 2, 3584]⟩
abbrev S512x512 : Shape := ⟨2, ![512, 512]⟩
abbrev S128x512 : Shape := ⟨2, ![128, 512]⟩
abbrev S1x512 : Shape := ⟨2, ![1, 512]⟩
abbrev S2x3584 : Shape := ⟨2, ![2, 3584]⟩
abbrev S128x3584 : Shape := ⟨2, ![128, 3584]⟩
abbrev S1x3584 : Shape := ⟨2, ![1, 3584]⟩
abbrev S512x1 : Shape := ⟨2, ![512, 1]⟩
abbrev S512x128 : Shape := ⟨2, ![512, 128]⟩
abbrev S512x256 : Shape := ⟨2, ![512, 256]⟩
abbrev S512x9728 : Shape := ⟨2, ![512, 9728]⟩

abbrev nBuf : Space → Nat
  | .hbm => 32
  | .vmem => 33
  | .smem => 0
  | _ => 0

abbrev bufTy : (tb : Table) → Fin (tcTables nBuf tb) → BufTy
  | .hbm, ⟨0, _⟩ => ⟨S16x4096x3584, .fp8e4m3⟩
  | .hbm, ⟨1, _⟩ => ⟨S16x4096x28, .f32⟩
  | .hbm, ⟨2, _⟩ => ⟨S16x4096x3584, .fp8e5m2⟩
  | .hbm, ⟨3, _⟩ => ⟨S16x4096x28, .f32⟩
  | .hbm, ⟨4, _⟩ => ⟨S3584x2x4864, .fp8e4m3⟩
  | .hbm, ⟨5, _⟩ => ⟨S28x2x38, .f32⟩
  | .hbm, ⟨6, _⟩ => ⟨S4864x3584, .fp8e4m3⟩
  | .hbm, ⟨7, _⟩ => ⟨S38x28, .f32⟩
  | .hbm, ⟨8, _⟩ => ⟨S3584x2x19x256, .fp8e4m3⟩
  | .hbm, ⟨9, _⟩ => ⟨S3584x19x2x256, .fp8e4m3⟩
  | .hbm, ⟨10, _⟩ => ⟨S3584x9728, .fp8e4m3⟩
  | .hbm, ⟨11, _⟩ => ⟨S28x2x38x128, .f32⟩
  | .hbm, ⟨12, _⟩ => ⟨S28x2x4864, .f32⟩
  | .hbm, ⟨13, _⟩ => ⟨S28x2x19x256, .f32⟩
  | .hbm, ⟨14, _⟩ => ⟨S28x19x2x256, .f32⟩
  | .hbm, ⟨15, _⟩ => ⟨S28x9728, .f32⟩
  | .hbm, ⟨16, _⟩ => ⟨S38x28x128, .f32⟩
  | .hbm, ⟨17, _⟩ => ⟨S38x3584, .f32⟩
  | .hbm, ⟨18, _⟩ => ⟨S19x2x3584, .f32⟩
  | .hbm, ⟨19, _⟩ => ⟨S65536x3584, .fp8e4m3⟩
  | .hbm, ⟨20, _⟩ => ⟨S65536x28, .f32⟩
  | .hbm, ⟨21, _⟩ => ⟨S65536x3584, .fp8e5m2⟩
  | .hbm, ⟨22, _⟩ => ⟨S65536x28, .f32⟩
  | .hbm, ⟨23, _⟩ => ⟨S65536x9728, .bf16⟩
  | .hbm, ⟨24, _⟩ => ⟨S3584x9728, .bf16⟩
  | .hbm, ⟨25, _⟩ => ⟨S3584x9728, .f32⟩
  | .hbm, ⟨26, _⟩ => ⟨S4864x3584, .f32⟩
  | .hbm, ⟨27, _⟩ => ⟨S65536x3584, .bf16⟩
  | .hbm, ⟨28, _⟩ => ⟨S3584x19x2x256, .f32⟩
  | .hbm, ⟨29, _⟩ => ⟨S3584x2x19x256, .f32⟩
  | .hbm, ⟨30, _⟩ => ⟨S3584x2x4864, .f32⟩
  | .hbm, ⟨31, _⟩ => ⟨S16x4096x3584, .bf16⟩
  | .local _ .vmem, ⟨0, _⟩ => ⟨S512x3584, .fp8e4m3⟩
  | .local _ .vmem, ⟨1, _⟩ => ⟨S512x3584, .fp8e4m3⟩
  | .local _ .vmem, ⟨2, _⟩ => ⟨S512x28, .f32⟩
  | .local _ .vmem, ⟨3, _⟩ => ⟨S512x28, .f32⟩
  | .local _ .vmem, ⟨4, _⟩ => ⟨S512x3584, .fp8e5m2⟩
  | .local _ .vmem, ⟨5, _⟩ => ⟨S512x3584, .fp8e5m2⟩
  | .local _ .vmem, ⟨6, _⟩ => ⟨S512x28, .f32⟩
  | .local _ .vmem, ⟨7, _⟩ => ⟨S512x28, .f32⟩
  | .local _ .vmem, ⟨8, _⟩ => ⟨S3584x512, .fp8e4m3⟩
  | .local _ .vmem, ⟨9, _⟩ => ⟨S3584x512, .fp8e4m3⟩
  | .local _ .vmem, ⟨10, _⟩ => ⟨S28x512, .f32⟩
  | .local _ .vmem, ⟨11, _⟩ => ⟨S28x512, .f32⟩
  | .local _ .vmem, ⟨12, _⟩ => ⟨S256x3584, .fp8e4m3⟩
  | .local _ .vmem, ⟨13, _⟩ => ⟨S256x3584, .fp8e4m3⟩
  | .local _ .vmem, ⟨14, _⟩ => ⟨S1x2x3584, .f32⟩
  | .local _ .vmem, ⟨15, _⟩ => ⟨S1x2x3584, .f32⟩
  | .local _ .vmem, ⟨16, _⟩ => ⟨S512x512, .bf16⟩
  | .local _ .vmem, ⟨17, _⟩ => ⟨S512x512, .bf16⟩
  | .local _ .vmem, ⟨18, _⟩ => ⟨S3584x512, .bf16⟩
  | .local _ .vmem, ⟨19, _⟩ => ⟨S3584x512, .bf16⟩
  | .local _ .vmem, ⟨20, _⟩ => ⟨S3584x512, .f32⟩
  | .local _ .vmem, ⟨21, _⟩ => ⟨S3584x512, .f32⟩
  | .local _ .vmem, ⟨22, _⟩ => ⟨S256x3584, .f32⟩
  | .local _ .vmem, ⟨23, _⟩ => ⟨S256x3584, .f32⟩
  | .local _ .vmem, ⟨24, _⟩ => ⟨S512x3584, .bf16⟩
  | .local _ .vmem, ⟨25, _⟩ => ⟨S512x3584, .bf16⟩
  | .local _ .vmem, ⟨26, _⟩ => ⟨S256x3584, .bf16⟩
  | .local _ .vmem, ⟨27, _⟩ => ⟨S512x9728, .bf16⟩
  | .local _ .vmem, ⟨28, _⟩ => ⟨S512x9728, .bf16⟩
  | .local _ .vmem, ⟨29, _⟩ => ⟨S512x9728, .bf16⟩
  | .local _ .vmem, ⟨30, _⟩ => ⟨S512x9728, .bf16⟩
  | .local _ .vmem, ⟨31, _⟩ => ⟨S512x512, .bf16⟩
  | .local _ .vmem, ⟨32, _⟩ => ⟨S512x512, .bf16⟩
  | _, _ => ⟨S16x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29

abbrev nD : Nat := 1
abbrev τ : Topo := Topo.v7x

variable {F : FTy → Type} [FloatOps F]

abbrev grid0 : Pipeline.Grid := ⟨2, ![19, 128], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3584 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x28 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3584x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S28x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3584x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3584x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x3584 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨2, ![7, 128], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x9728 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x9728 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== ReferenceIdeal.lean ====
abbrev S16x4096x3584 : Shape := ⟨3, ![16, 4096, 3584]⟩
abbrev S16x4096x28 : Shape := ⟨3, ![16, 4096, 28]⟩
abbrev S3584x2x4864 : Shape := ⟨3, ![3584, 2, 4864]⟩
abbrev S28x2x38 : Shape := ⟨3, ![28, 2, 38]⟩
abbrev S4864x3584 : Shape := ⟨2, ![4864, 3584]⟩
abbrev S38x28 : Shape := ⟨2, ![38, 28]⟩
abbrev S28x128x2x38x128 : Shape := ⟨5, ![28, 128, 2, 38, 128]⟩
abbrev S28x1x2x38x1 : Shape := ⟨5, ![28, 1, 2, 38, 1]⟩
abbrev S38x128x28x128 : Shape := ⟨4, ![38, 128, 28, 128]⟩
abbrev S38x1x28x1 : Shape := ⟨4, ![38, 1, 28, 1]⟩
abbrev S65536x28x128 : Shape := ⟨3, ![65536, 28, 128]⟩
abbrev S65536x28 : Shape := ⟨2, ![65536, 28]⟩
abbrev S65536x28x1 : Shape := ⟨3, ![65536, 28, 1]⟩
abbrev S65536x3584 : Shape := ⟨2, ![65536, 3584]⟩
abbrev S65536x2x4864 : Shape := ⟨3, ![65536, 2, 4864]⟩
abbrev S65536x1x4864 : Shape := ⟨3, ![65536, 1, 4864]⟩
abbrev S65536x4864 : Shape := ⟨2, ![65536, 4864]⟩
abbrev S_ : Shape := ⟨0, ![]⟩

abbrev nBuf : Space → Nat
  | .hbm => 76
  | .vmem => 8
  | .smem => 0
  | _ => 0

abbrev bufTy : (tb : Table) → Fin (tcTables nBuf tb) → BufTy
  | .hbm, ⟨0, _⟩ => ⟨S16x4096x3584, .fp8e4m3⟩
  | .hbm, ⟨1, _⟩ => ⟨S16x4096x28, .f32⟩
  | .hbm, ⟨2, _⟩ => ⟨S16x4096x3584, .fp8e5m2⟩
  | .hbm, ⟨3, _⟩ => ⟨S16x4096x28, .f32⟩
  | .hbm, ⟨4, _⟩ => ⟨S3584x2x4864, .fp8e4m3⟩
  | .hbm, ⟨5, _⟩ => ⟨S28x2x38, .f32⟩
  | .hbm, ⟨6, _⟩ => ⟨S4864x3584, .fp8e4m3⟩
  | .hbm, ⟨7, _⟩ => ⟨S38x28, .f32⟩
  | .hbm, ⟨8, _⟩ => ⟨S16x4096x3584, .bf16⟩
  | .hbm, ⟨9, _⟩ => ⟨S16x4096x3584, .bf16⟩
  | .hbm, ⟨10, _⟩ => ⟨S3584x2x4864, .bf16⟩
  | .hbm, ⟨11, _⟩ => ⟨S4864x3584, .bf16⟩
  | .hbm, ⟨12, _⟩ => ⟨S28x128x2x38x128, .bf16⟩
  | .hbm, ⟨13, _⟩ => ⟨S28x2x38, .bf16⟩
  | .hbm, ⟨14, _⟩ => ⟨S28x1x2x38x1, .bf16⟩
  | .hbm, ⟨15, _⟩ => ⟨S28x128x2x38x128, .bf16⟩
  | .hbm, ⟨16, _⟩ => ⟨S28x128x2x38x128, .bf16⟩
  | .hbm, ⟨17, _⟩ => ⟨S3584x2x4864, .bf16⟩
  | .hbm, ⟨18, _⟩ => ⟨S38x128x28x128, .bf16⟩
  | .hbm, ⟨19, _⟩ => ⟨S38x28, .bf16⟩
  | .hbm, ⟨20, _⟩ => ⟨S38x1x28x1, .bf16⟩
  | .hbm, ⟨21, _⟩ => ⟨S38x128x28x128, .bf16⟩
  | .hbm, ⟨22, _⟩ => ⟨S38x128x28x128, .bf16⟩
  | .hbm, ⟨23, _⟩ => ⟨S4864x3584, .bf16⟩
  | .hbm, ⟨24, _⟩ => ⟨S65536x28x128, .bf16⟩
  | .hbm, ⟨25, _⟩ => ⟨S65536x28, .f32⟩
  | .hbm, ⟨26, _⟩ => ⟨S65536x28, .bf16⟩
  | .hbm, ⟨27, _⟩ => ⟨S65536x28x1, .bf16⟩
  | .hbm, ⟨28, _⟩ => ⟨S65536x28x128, .bf16⟩
  | .hbm, ⟨29, _⟩ => ⟨S65536x28x128, .bf16⟩
  | .hbm, ⟨30, _⟩ => ⟨S65536x3584, .bf16⟩
  | .hbm, ⟨31, _⟩ => ⟨S65536x28x128, .bf16⟩
  | .hbm, ⟨32, _⟩ => ⟨S65536x28, .f32⟩
  | .hbm, ⟨33, _⟩ => ⟨S65536x28, .bf16⟩
  | .hbm, ⟨34, _⟩ => ⟨S65536x28x1, .bf16⟩
  | .hbm, ⟨35, _⟩ => ⟨S65536x28x128, .bf16⟩
  | .hbm, ⟨36, _⟩ => ⟨S65536x28x128, .bf16⟩
  | .hbm, ⟨37, _⟩ => ⟨S65536x3584, .bf16⟩
  | .hbm, ⟨38, _⟩ => ⟨S65536x2x4864, .f32⟩
  | .hbm, ⟨39, _⟩ => ⟨S65536x1x4864, .f32⟩
  | .hbm, ⟨40, _⟩ => ⟨S65536x4864, .f32⟩
  | .hbm, ⟨41, _⟩ => ⟨S65536x1x4864, .f32⟩
  | .hbm, ⟨42, _⟩ => ⟨S65536x4864, .f32⟩
  | .hbm, ⟨43, _⟩ => ⟨S65536x4864, .f32⟩
  | .hbm, ⟨44, _⟩ => ⟨S65536x4864, .f32⟩
  | .hbm, ⟨45, _⟩ => ⟨S_, .f32⟩
  | .hbm, ⟨46, _⟩ => ⟨S65536x4864, .f32⟩
  | .hbm, ⟨47, _⟩ => ⟨S65536x4864, .f32⟩
  | .hbm, ⟨48, _⟩ => ⟨S_, .f32⟩
  | .hbm, ⟨49, _⟩ => ⟨S65536x4864, .f32⟩
  | .hbm, ⟨50, _⟩ => ⟨S65536x4864, .f32⟩
  | .hbm, ⟨51, _⟩ => ⟨S65536x4864, .f32⟩
  | .hbm, ⟨52, _⟩ => ⟨S65536x4864, .f32⟩
  | .hbm, ⟨53, _⟩ => ⟨S65536x4864, .bf16⟩
  | .hbm, ⟨54, _⟩ => ⟨S65536x4864, .f32⟩
  | .hbm, ⟨55, _⟩ => ⟨S65536x4864, .f32⟩
  | .hbm, ⟨56, _⟩ => ⟨S65536x4864, .f32⟩
  | .hbm, ⟨57, _⟩ => ⟨S_, .f32⟩
  | .hbm, ⟨58, _⟩ => ⟨S65536x4864, .f32⟩
  | .hbm, ⟨59, _⟩ => ⟨S65536x4864, .f32⟩
  | .hbm, ⟨60, _⟩ => ⟨S65536x4864, .f32⟩
  | .hbm, ⟨61, _⟩ => ⟨S_, .f32⟩
  | .hbm, ⟨62, _⟩ => ⟨S65536x4864, .f32⟩
  | .hbm, ⟨63, _⟩ => ⟨S65536x4864, .f32⟩
  | .hbm, ⟨64, _⟩ => ⟨S65536x4864, .f32⟩
  | .hbm, ⟨65, _⟩ => ⟨S65536x4864, .f32⟩
  | .hbm, ⟨66, _⟩ => ⟨S65536x4864, .f32⟩
  | .hbm, ⟨67, _⟩ => ⟨S65536x1x4864, .f32⟩
  | .hbm, ⟨68, _⟩ => ⟨S65536x1x4864, .f32⟩
  | .hbm, ⟨69, _⟩ => ⟨S65536x2x4864, .f32⟩
  | .hbm, ⟨70, _⟩ => ⟨S65536x2x4864, .bf16⟩
  | .hbm, ⟨71, _⟩ => ⟨S65536x3584, .f32⟩
  | .hbm, ⟨72, _⟩ => ⟨S65536x3584, .bf16⟩
  | .hbm, ⟨73, _⟩ => ⟨S3584x2x4864, .f32⟩
  | .hbm, ⟨74, _⟩ => ⟨S4864x3584, .f32⟩
  | .hbm, ⟨75, _⟩ => ⟨S16x4096x3584, .bf16⟩
  | .local _ .vmem, ⟨0, _⟩ => ⟨S16x4096x3584, .fp8e4m3⟩
  | .local _ .vmem, ⟨1, _⟩ => ⟨S16x4096x3584, .fp8e5m2⟩
  | .local _ .vmem, ⟨2, _⟩ => ⟨S3584x2x4864, .fp8e4m3⟩
  | .local _ .vmem, ⟨3, _⟩ => ⟨S4864x3584, .fp8e4m3⟩
  | .local _ .vmem, ⟨4, _⟩ => ⟨S16x4096x3584, .bf16⟩
  | .local _ .vmem, ⟨5, _⟩ => ⟨S16x4096x3584, .bf16⟩
  | .local _ .vmem, ⟨6, _⟩ => ⟨S3584x2x4864, .bf16⟩
  | .local _ .vmem, ⟨7, _⟩ => ⟨S4864x3584, .bf16⟩
  | _, _ => ⟨S16x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_v35 : Ref sig .tc := ⟨.hbm, 47, rfl⟩
abbrev main_cst_0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_2 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16x4096x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096x3584 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x2x4864 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4864x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x4096x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x4096x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3584x2x4864 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4864x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Spec.lean ====
/- What one grid point of the first kernel computes, as plain functions of the blocks it reads: the four
   dequantized blocks (each element times the scale of its group of 128), in closed form, and the lemma per kind of
   block that a stored tile of 128 columns or rows is the corresponding part of the closed form. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.ValueIdxCore
public import Idealize.ShloMosaic.Lib.ValueLayout

@[expose] public section

-- the structural walk over rectangles of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Idealize.ShloMosaic.ValueIdx

variable {F : FTy → Type} [FloatOps F]

local notation "𝕄" => MT nD τ sig Unit (Elt F) ℕ (UR sig nD τ) ℕ

/-- Activations dequantized: element `(r, j)` times the scale of row `r` and column group `j / 128`. -/
def deqCol {φ : FTy} (h : φ.bits < FTy.bf16.bits) (x : FVec F S512x3584 φ) (s : FVec F S512x28 .f32) : FVec F S512x3584 .bf16 :=
  fun i => FloatOps.mulf (FloatOps.extf .bf16 h (x i))
    (FloatOps.truncf .bf16 bitsLt_bf16_f32 (s (ix2 (i 0) ⟨(i 1).val / 128, by have h : (i 1).val < 3584 := (i 1).isLt; show _ < 28; omega⟩)))

/-- The gate and up weights dequantized: element `(j, n)` times the scale of row group `j / 128` and column `n`. -/
def deqRow (x : FVec F S3584x512 .fp8e4m3) (s : FVec F S28x512 .f32) : FVec F S3584x512 .bf16 :=
  fun i => FloatOps.mulf (FloatOps.extf .bf16 bitsLt_fp8e4m3_bf16 (x i))
    (FloatOps.truncf .bf16 bitsLt_bf16_f32 (s (ix2 ⟨(i 0).val / 128, by have h : (i 0).val < 3584 := (i 0).isLt; show _ < 28; omega⟩ (i 1))))

/-- The down weights dequantized: element `(f, j)` times the scale of row group `f / 128` and column `j`. -/
def deqDown (x : FVec F S256x3584 .fp8e4m3) (s : FVec F S1x2x3584 .f32) : FVec F S256x3584 .bf16 :=
  fun i => FloatOps.mulf (FloatOps.extf .bf16 bitsLt_fp8e4m3_bf16 (x i))
    (FloatOps.truncf .bf16 bitsLt_bf16_f32 (s (ix3 0 ⟨(i 0).val / 128, by have h : (i 0).val < 256 := (i 0).isLt; show _ < 2; omega⟩ (i 1))))

/-- A tile of 128 columns of the activations, dequantized by its column of scales, is that tile of `deqCol`. -/
theorem deqCol_piece {φ : FTy} (h : φ.bits < FTy.bf16.bits) (x : FVec F S512x3584 φ) (s : FVec F S512x28 .f32)
    {off off' : Fin 2 → ℕ} (o k : ℕ) (ho : o = 128 * k) (hoff : off = ![0, o]) (hoff' : off' = ![0, k])
    (inb : ∀ a, off a + S512x128.size a ≤ S512x3584.size a) (inb' : ∀ a, off' a + S512x1.size a ≤ S512x28.size a)
    (v6 : FVec F S512x128 φ) (v3 : FVec F S512x1 .f32)
    (hv6 : v6 = fun j => x ((Rect.unit (s := S512x3584) off S512x128.size inb).emb j))
    (hv3 : v3 = fun j => s ((Rect.unit (s := S512x28) off' S512x1.size inb').emb j))
    {hc : S512x1.ShapeCasts S512x1} {hc' : S512x128.ShapeCasts S512x128} {hb : S512x1.Broadcasts S512x128} (j : S512x128.Idx) :
    shapeCast S512x128 (mulf (extf .bf16 (shapeCast S512x128 v6 hc') h)
      (broadcastTo S512x128 (truncf .bf16 (shapeCast S512x1 v3 hc) bitsLt_bf16_f32) hb)) hc' j
      = deqCol h x s ((Rect.unit (s := S512x3584) off S512x128.size inb).emb j) := by
  subst hv6 hv3 hoff hoff' ho
  simp only [shapeCast_self]
  have hj : (j 1).val < 128 := (j 1).isLt
  refine congrArg (FloatOps.mulf _) (congrArg (FloatOps.truncf .bf16 bitsLt_bf16_f32) (congrArg s (funext fun a => Fin.ext ?_)))
  match a with
  | ⟨0, _⟩ => rfl
  | ⟨1, _⟩ =>
    show k + 1 * 0 = (128 * k + 1 * (j 1).val) / 128
    omega

/-- A tile of 128 rows of the gate and up weights, dequantized by its row of scales, is that tile of `deqRow`. -/
theorem deqRow_piece (x : FVec F S3584x512 .fp8e4m3) (s : FVec F S28x512 .f32)
    {off : Fin 2 → ℕ} (o k : ℕ) (ho : o = 128 * k) (hoff : off = ![o, 0])
    (inb : ∀ a, off a + S128x512.size a ≤ S3584x512.size a)
    (v6 : FVec F S128x512 .fp8e4m3) (v3 : FVec F S28x512 .f32)
    (hv6 : v6 = fun j => x ((Rect.unit (s := S3584x512) off S128x512.size inb).emb j)) (hv3 : v3 = s)
    {hs : S28x512.Slices ![k, 0] S1x512}
    {hc : S28x512.ShapeCasts S28x512} {hc' : S128x512.ShapeCasts S128x512} {hb : S1x512.Broadcasts S128x512} (j : S128x512.Idx) :
    mulf (extf .bf16 (shapeCast S128x512 v6 hc') bitsLt_fp8e4m3_bf16)
      (broadcastTo S128x512 (truncf .bf16 (extractStridedSlice S1x512 ![k, 0] (shapeCast S28x512 v3 hc) hs) bitsLt_bf16_f32) hb) j
      = deqRow x s ((Rect.unit (s := S3584x512) off S128x512.size inb).emb j) := by
  subst hv6 hv3 hoff ho
  simp only [shapeCast_self]
  have hj : (j 0).val < 128 := (j 0).isLt
  refine congrArg (FloatOps.mulf _) (congrArg (FloatOps.truncf .bf16 bitsLt_bf16_f32) (congrArg v3 (funext fun a => Fin.ext ?_)))
  match a with
  | ⟨0, _⟩ =>
    show k + 0 = (128 * k + 1 * (j 0).val) / 128
    omega
  | ⟨1, _⟩ =>
    show 0 + (j 1).val = 0 + 1 * (j 1).val
    omega

/-- A tile of 128 rows of the down weights, dequantized by its row of scales, is that tile of `deqDown`. -/
theorem deqDown_piece (x : FVec F S256x3584 .fp8e4m3) (s : FVec F S1x2x3584 .f32)
    {off : Fin 2 → ℕ} (o k : ℕ) (hk : k < 2) (ho : o = 128 * k) (hoff : off = ![o, 0])
    (inb : ∀ a, off a + S128x3584.size a ≤ S256x3584.size a)
    (v6 : FVec F S128x3584 .fp8e4m3) (v3 : FVec F S1x2x3584 .f32)
    (hv6 : v6 = fun j => x ((Rect.unit (s := S256x3584) off S128x3584.size inb).emb j)) (hv3 : v3 = s)
    {hs : S2x3584.Slices ![k, 0] S1x3584}
    {hc : S1x2x3584.ShapeCasts S2x3584} {hc' : S128x3584.ShapeCasts S128x3584} {hb : S1x3584.Broadcasts S128x3584} (j : S128x3584.Idx) :
    shapeCast S128x3584 (mulf (extf .bf16 v6 bitsLt_fp8e4m3_bf16)
      (broadcastTo S128x3584 (truncf .bf16 (extractStridedSlice S1x3584 ![k, 0] (shapeCast S2x3584 v3 hc) hs) bitsLt_bf16_f32) hb)) hc' j
      = deqDown x s ((Rect.unit (s := S256x3584) off S128x3584.size inb).emb j) := by
  subst hv6 hv3 hoff ho
  rw [shapeCast_self]
  have hj : (j 0).val < 128 := (j 0).isLt
  refine congrArg (FloatOps.mulf _) (congrArg (FloatOps.truncf .bf16 bitsLt_bf16_f32) ?_)
  have e := shapeCast_1ab_ab_apply (a := 2) (b := 3584) v3 hc ⟨k, hk⟩ (j 1)
  refine (congrArg (shapeCast S2x3584 v3 hc) (funext fun a => Fin.ext ?_)).trans (e.trans (congrArg v3 (funext fun a => Fin.ext ?_)))
  · match a with
    | ⟨0, _⟩ => rfl
    | ⟨1, _⟩ => show 0 + (j 1).val = (j 1).val; omega
  match a with
  | ⟨0, _⟩ => rfl
  | ⟨1, _⟩ =>
    show k = (128 * k + 1 * (j 0).val) / 128
    omega
  | ⟨2, _⟩ =>
    show (j 1).val = 0 + 1 * (j 1).val
    omega

/-- `deqCol_piece` with both operands as loads from whole buffers holding the activations block and its scales. -/
theorem deqX_load {a : Memref sig .tc .vmem S512x3584 .fp8e4m3} (ha : a.IsWhole) {b : Memref sig .tc .vmem S512x28 .f32} (hb : b.IsWhole)
    (x : Vec F S512x3584 .fp8e4m3) (s : Vec F S512x28 .f32) (o k : ℕ) (ho : o = 128 * k)
    (inb : ∀ d, (![0, o] : Fin 2 → ℕ) d + S512x128.size d ≤ S512x3584.size d) (inb' : ∀ d, (![0, k] : Fin 2 → ℕ) d + S512x1.size d ≤ S512x28.size d)
    {hc : S512x1.ShapeCasts S512x1} {hc' : S512x128.ShapeCasts S512x128} {hbr : S512x1.Broadcasts S512x128} (j : S512x128.Idx) :
    shapeCast S512x128 (mulf (extf .bf16 (shapeCast S512x128
        (View.readAt (Elt F) a.view (Rect.unit (s := S512x3584) ![0, o] S512x128.size inb).toLoadRect (ha.unread x) : FVec F S512x128 .fp8e4m3) hc') bitsLt_fp8e4m3_bf16)
      (broadcastTo S512x128 (truncf .bf16 (shapeCast S512x1
        (View.readAt (Elt F) b.view (Rect.unit (s := S512x28) ![0, k] S512x1.size inb').toLoadRect (hb.unread s) : FVec F S512x1 .f32) hc) bitsLt_bf16_f32) hbr)) hc' j
      = deqCol bitsLt_fp8e4m3_bf16 x s ((Rect.unit (s := S512x3584) ![0, o] S512x128.size inb).emb j) :=
  deqCol_piece _ x s o k ho rfl rfl inb inb' _ _ (congrArg (View.ld · _) (ha.read_unread x)) (congrArg (View.ld · _) (hb.read_unread s)) j

/-- `deqCol_piece` with both operands as loads from whole buffers holding the gradient block and its scales. -/
theorem deqDy_load {a : Memref sig .tc .vmem S512x3584 .fp8e5m2} (ha : a.IsWhole) {b : Memref sig .tc .vmem S512x28 .f32} (hb : b.IsWhole)
    (x : Vec F S512x3584 .fp8e5m2) (s : Vec F S512x28 .f32) (o k : ℕ) (ho : o = 128 * k)
    (inb : ∀ d, (![0, o] : Fin 2 → ℕ) d + S512x128.size d ≤ S512x3584.size d) (inb' : ∀ d, (![0, k] : Fin 2 → ℕ) d + S512x1.size d ≤ S512x28.size d)
    {hc : S512x1.ShapeCasts S512x1} {hc' : S512x128.ShapeCasts S512x128} {hbr : S512x1.Broadcasts S512x128} (j : S512x128.Idx) :
    shapeCast S512x128 (mulf (extf .bf16 (shapeCast S512x128
        (View.readAt (Elt F) a.view (Rect.unit (s := S512x3584) ![0, o] S512x128.size inb).toLoadRect (ha.unread x) : FVec F S512x128 .fp8e5m2) hc') bitsLt_fp8e5m2_bf16)
      (broadcastTo S512x128 (truncf .bf16 (shapeCast S512x1
        (View.readAt (Elt F) b.view (Rect.unit (s := S512x28) ![0, k] S512x1.size inb').toLoadRect (hb.unread s) : FVec F S512x1 .f32) hc) bitsLt_bf16_f32) hbr)) hc' j
      = deqCol bitsLt_fp8e5m2_bf16 x s ((Rect.unit (s := S512x3584) ![0, o] S512x128.size inb).emb j) :=
  deqCol_piece _ x s o k ho rfl rfl inb inb' _ _ (congrArg (View.ld · _) (ha.read_unread x)) (congrArg (View.ld · _) (hb.read_unread s)) j

/-- `deqRow_piece` with both operands as loads from whole buffers holding the weight block and its scales. -/
theorem deqRow_load {a : Memref sig .tc .vmem S3584x512 .fp8e4m3} (ha : a.IsWhole) {b : Memref sig .tc .vmem S28x512 .f32} (hb : b.IsWhole)
    (x : Vec F S3584x512 .fp8e4m3) (s : Vec F S28x512 .f32) (o k : ℕ) (ho : o = 128 * k)
    (inb : ∀ d, (![o, 0] : Fin 2 → ℕ) d + S128x512.size d ≤ S3584x512.size d)
    {inb' : ∀ d, (![0, 0] : Fin 2 → ℕ) d + S28x512.size d ≤ S28x512.size d} {hs : S28x512.Slices ![k, 0] S1x512}
    {hc : S28x512.ShapeCasts S28x512} {hc' : S128x512.ShapeCasts S128x512} {hbr : S1x512.Broadcasts S128x512} (j : S128x512.Idx) :
    mulf (extf .bf16 (shapeCast S128x512
        (View.readAt (Elt F) a.view (Rect.unit (s := S3584x512) ![o, 0] S128x512.size inb).toLoadRect (ha.unread x) : FVec F S128x512 .fp8e4m3) hc') bitsLt_fp8e4m3_bf16)
      (broadcastTo S128x512 (truncf .bf16 (extractStridedSlice S1x512 ![k, 0] (shapeCast S28x512
        (View.readAt (Elt F) b.view (Rect.unit (s := S28x512) ![0, 0] S28x512.size inb').toLoadRect (hb.unread s) : FVec F S28x512 .f32) hc) hs) bitsLt_bf16_f32) hbr) j
      = deqRow x s ((Rect.unit (s := S3584x512) ![o, 0] S128x512.size inb).emb j) :=
  deqRow_piece x s o k ho rfl inb _ _ (congrArg (View.ld · _) (ha.read_unread x))
    ((congrArg (View.ld · _) (hb.read_unread s)).trans (View.ld_unit_zero (by funext a; fin_cases a <;> rfl) _ _)) j

/-- `deqDown_piece` with both operands as loads from whole buffers holding the weight block and its scales. -/
theorem deqDown_load {a : Memref sig .tc .vmem S256x3584 .fp8e4m3} (ha : a.IsWhole) {b : Memref sig .tc .vmem S1x2x3584 .f32} (hb : b.IsWhole)
    (x : Vec F S256x3584 .fp8e4m3) (s : Vec F S1x2x3584 .f32) (o k : ℕ) (hk : k < 2) (ho : o = 128 * k)
    (inb : ∀ d, (![o, 0] : Fin 2 → ℕ) d + S128x3584.size d ≤ S256x3584.size d)
    {inb' : ∀ d, (![0, 0, 0] : Fin 3 → ℕ) d + S1x2x3584.size d ≤ S1x2x3584.size d} {hs : S2x3584.Slices ![k, 0] S1x3584}
    {hc : S1x2x3584.ShapeCasts S2x3584} {hc' : S128x3584.ShapeCasts S128x3584} {hbr : S1x3584.Broadcasts S128x3584} (j : S128x3584.Idx) :
    shapeCast S128x3584 (mulf (extf .bf16
        (View.readAt (Elt F) a.view (Rect.unit (s := S256x3584) ![o, 0] S128x3584.size inb).toLoadRect (ha.unread x) : FVec F S128x3584 .fp8e4m3) bitsLt_fp8e4m3_bf16)
      (broadcastTo S128x3584 (truncf .bf16 (extractStridedSlice S1x3584 ![k, 0] (shapeCast S2x3584
        (View.readAt (Elt F) b.view (Rect.unit (s := S1x2x3584) ![0, 0, 0] S1x2x3584.size inb').toLoadRect (hb.unread s) : FVec F S1x2x3584 .f32) hc) hs) bitsLt_bf16_f32) hbr)) hc' j
      = deqDown x s ((Rect.unit (s := S256x3584) ![o, 0] S128x3584.size inb).emb j) :=
  deqDown_piece x s o k hk ho rfl inb _ _ (congrArg (View.ld · _) (ha.read_unread x))
    ((congrArg (View.ld · _) (hb.read_unread s)).trans (View.ld_unit_zero (by funext a; fin_cases a <;> rfl) _ _)) j

/-! ## Whole buffers read after stores that tile them -/

section Pieces

variable {S : Shape} {e : EltTy}

/-- A whole load after tiling stores, each the matching part of one function, reads that function. -/
theorem readCov_of_pieces {sp : Space} (v : View sig .tc sp S e) (L : List (View.Piece (Elt F) S e)) (G : S.Idx → Elt F e)
    {off : Fin S.rank → ℕ} (h0 : off = fun _ => 0) (inb : ∀ a, off a + S.size a ≤ S.size a)
    (hcov : ∀ y, ∃ p ∈ L, y ∈ p.1.set) (hp : ∀ p ∈ L, ∀ x : p.1.shape.Idx, p.2 x = G (p.1.emb x)) :
    v.readCov L (Rect.unit off S.size inb).toLoadRect = G := by
  refine (View.readCov_eq_canon_ld _ _ _ hcov).trans ((View.ld_unit_zero h0 inb _).trans ?_)
  funext y
  exact View.canon_apply_of_pieces G L hp y (hcov y)

/-- The contents after tiling stores, each the matching part of one function, are that function. -/
theorem read_of_pieces {sp : Space} (v : View sig .tc sp S e) (f : v.ty.Contents (Elt F)) (L : List (View.Piece (Elt F) S e)) (G : S.Idx → Elt F e)
    (hcov : ∀ y, ∃ p ∈ L, y ∈ p.1.set) (hp : ∀ p ∈ L, ∀ x : p.1.shape.Idx, p.2 x = G (p.1.emb x)) :
    v.read (Elt F) (v.writes (Elt F) f L) = G := by
  rw [View.read_writes_eq_canon _ _ _ hcov]
  funext y
  exact View.canon_apply_of_pieces G L hp y (hcov y)

/-- The contents after a store of the whole buffer, last, are what it stored. -/
theorem read_of_whole_store {sp : Space} (v : View sig .tc sp S e) (f : v.ty.Contents (Elt F)) {off : Fin S.rank → ℕ} (h0 : off = fun _ => 0)
    (inb : ∀ a, off a + S.size a ≤ S.size a) (w G : S.Idx → Elt F e) (L : List (View.Piece (Elt F) S e)) (hw : w = G) :
    v.read (Elt F) (v.writes (Elt F) f ((⟨Rect.unit off S.size inb, w⟩ : View.Piece (Elt F) S e) :: L)) = G := by
  rw [View.read_writes_eq_canon _ _ _ (fun y => ⟨_, List.mem_cons_self, View.mem_set_unit_zero h0 inb y⟩), View.canon_cons_unit_zero h0 inb, hw]

/-- A whole load of a buffer holding `X` reads `X`. -/
theorem readAt_whole {sp : Space} {a : Memref sig .tc sp S e} (ha : a.IsWhole) (X : S.Idx → Elt F e) {off : Fin S.rank → ℕ} (h0 : off = fun _ => 0)
    (inb : ∀ a, off a + S.size a ≤ S.size a) : View.readAt (Elt F) a.view (Rect.unit off S.size inb).toLoadRect (ha.unread X) = X :=
  (congrArg (View.ld · _) (ha.read_unread X)).trans (View.ld_unit_zero h0 inb X)

end Pieces

/-- The zero offsets of a rank-two access, as the constant function. -/
theorem off2 : (![0, 0] : Fin 2 → ℕ) = fun _ => 0 := by funext a; fin_cases a <;> rfl

/-! ## One grid point, from the four dequantized blocks and the two running sums -/

/-- The gate and up gradients of the point's 512 tokens, side by side. -/
def ptDgu (xb : Vec F S512x3584 .bf16) (wgu : Vec F S3584x512 .bf16) (dyb : Vec F S512x3584 .bf16) (wdb : Vec F S256x3584 .bf16) : Vec F S512x512 .bf16 :=
  k0_pay122 xb wgu dyb wdb
/-- The running gate and up weight gradient, with the point's tokens added. -/
def ptDwgu (xb : Vec F S512x3584 .bf16) (wgu : Vec F S3584x512 .bf16) (dyb : Vec F S512x3584 .bf16) (wdb : Vec F S256x3584 .bf16) (acc : Vec F S3584x512 .f32) : Vec F S3584x512 .f32 :=
  k0_pay123 xb wgu dyb wdb acc xb
/-- The running down weight gradient, with the point's tokens added. -/
def ptDwd (xb : Vec F S512x3584 .bf16) (wgu : Vec F S3584x512 .bf16) (dyb : Vec F S512x3584 .bf16) (acc : Vec F S256x3584 .f32) : Vec F S256x3584 .f32 :=
  k0_pay1 (k0_pay121 xb wgu) (k0_pay124 acc) dyb (constant S256x3584 .f32 0x00000000#32)

end Cert.Kernel.Hand

end
-- ==== Proof.Kernel.BodyB.lean ====
/- The first kernel's body at a point that is not the first of its block of columns: the weight blocks and the running sums are carried in. -/
module

public import proofs.«01_k».proof.Proof.Kernel.Spec

@[expose] public section

-- the structural walk over rectangles of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The first kernel's body at a point that is not the first of its block of columns: the weight blocks and the running sums are carried in.
    From the eight input blocks it leaves the token gradients, the dequantized weights and the two sums of `Spec`. -/
theorem body_B (c : Dev nD) (i : grid0.Coords) (arg2 : Memref sig .tc .vmem S512x3584 .fp8e4m3) (harg2 : arg2.IsWhole) (arg3 : Memref sig .tc .vmem S512x28 .f32) (harg3 : arg3.IsWhole) (arg4 : Memref sig .tc .vmem S512x3584 .fp8e5m2) (harg4 : arg4.IsWhole) (arg5 : Memref sig .tc .vmem S512x28 .f32) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S256x3584 .fp8e4m3) (harg8 : arg8.IsWhole) (arg9 : Memref sig .tc .vmem S1x2x3584 .f32) (harg9 : arg9.IsWhole) (arg10 : Memref sig .tc .vmem S512x512 .bf16) (harg10 : arg10.IsWhole) (arg11 : Memref sig .tc .vmem S3584x512 .bf16) (harg11 : arg11.IsWhole) (arg12 : Memref sig .tc .vmem S3584x512 .f32) (harg12 : arg12.IsWhole) (arg13 : Memref sig .tc .vmem S256x3584 .f32) (harg13 : arg13.IsWhole) (arg14 : Memref sig .tc .vmem S512x3584 .bf16) (harg14 : arg14.IsWhole) (arg15 : Memref sig .tc .vmem S512x3584 .bf16) (harg15 : arg15.IsWhole) (arg16 : Memref sig .tc .vmem S256x3584 .bf16) (harg16 : arg16.IsWhole) (hc0 : ¬ k0_cond1 i = 1#1)
    (x0 : Vec F S512x3584 .fp8e4m3) (x1 : Vec F S512x28 .f32) (x2 : Vec F S512x3584 .fp8e5m2) (x3 : Vec F S512x28 .f32) (x4 : Vec F S3584x512 .fp8e4m3) (x5 : Vec F S28x512 .f32) (x6 : Vec F S256x3584 .fp8e4m3) (x7 : Vec F S1x2x3584 .f32) (xo9 : Vec F S3584x512 .bf16) (xo10 : Vec F S3584x512 .f32) (xo11 : Vec F S256x3584 .f32) (xs2 : Vec F S256x3584 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ owns (c : Thread nD τ) arg12 fullShare xo10 ∗ owns (c : Thread nD τ) arg13 fullShare xo11 ∗ (∃ d, owns (c : Thread nD τ) arg14 fullShare d) ∗ (∃ d, owns (c : Thread nD τ) arg15 fullShare d) ∗ owns (c : Thread nD τ) arg16 fullShare xs2
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (ptDgu (deqCol bitsLt_fp8e4m3_bf16 x0 x1) xo9 (deqCol bitsLt_fp8e5m2_bf16 x2 x3) xs2) ∗ owns (c : Thread nD τ) arg11 fullShare xo9 ∗ owns (c : Thread nD τ) arg12 fullShare (ptDwgu (deqCol bitsLt_fp8e4m3_bf16 x0 x1) xo9 (deqCol bitsLt_fp8e5m2_bf16 x2 x3) xs2 xo10) ∗ owns (c : Thread nD τ) arg13 fullShare (ptDwd (deqCol bitsLt_fp8e4m3_bf16 x0 x1) xo9 (deqCol bitsLt_fp8e5m2_bf16 x2 x3) xo11) ∗ (∃ d, owns (c : Thread nD τ) arg14 fullShare d) ∗ (∃ d, owns (c : Thread nD τ) arg15 fullShare d) ∗ owns (c : Thread nD τ) arg16 fullShare xs2) -∗ K ⟨⟩))
      ⊢ wp frame (wpE (defs₀ (F := F)) Variants.none c none) E (cc0_ff_and_dw i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ff_and_dw_eq_skeleton]; unfold cc0_ff_and_dw_skel
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%ds0, %fs0, -, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg11.eq_unread hf9; obtain rfl := harg12.eq_unread hf10; obtain rfl := harg13.eq_unread hf11; obtain rfl := harg16.eq_unread hfs2
  sl_exec (disch := sl_exact hc0)
  sl_step
  have hX : body_B.sl.v619 c arg2 harg2 arg3 harg3 arg14 x0 x1 = deqCol bitsLt_fp8e4m3_bf16 x0 x1 := by
    unfold body_B.sl.v619
    refine readCov_of_pieces _ _ _ off2 _ (View.cover_of_tiledL _ ![512, 128] (by sl_kernel_rfl)) ?_
    refine List.forall_mem_cons.mpr ⟨fun j => deqX_load harg2 harg3 x0 x1 3456 27 rfl inb_S512x3584_S512x128_0_3456 inb_S512x28_S512x1_0_27 j, ?_⟩
    refine List.forall_mem_cons.mpr ⟨fun j => deqX_load harg2 harg3 x0 x1 3328 26 rfl inb_S512x3584_S512x128_0_3328 inb_S512x28_S512x1_0_26 j, ?_⟩
    refine List.forall_mem_cons.mpr ⟨fun j => deqX_load harg2 harg3 x0 x1 3200 25 rfl inb_S512x3584_S512x128_0_3200 inb_S512x28_S512x1_0_25 j, ?_⟩
    refine List.forall_mem_cons.mpr ⟨fun j => deqX_load harg2 harg3 x0 x1 3072 24 rfl inb_S512x3584_S512x128_0_3072 inb_S512x28_S512x1_0_24 j, ?_⟩
    refine List.forall_mem_cons.mpr ⟨fun j => deqX_load harg2 harg3 x0 x1 2944 23 rfl inb_S512x3584_S512x128_0_2944 inb_S512x28_S512x1_0_23 j, ?_⟩
    refine List.forall_mem_cons.mpr ⟨fun j => deqX_load harg2 harg3 x0 x1 2816 22 rfl inb_S512x3584_S512x128_0_2816 inb_S512x28_S512x1_0_22 j, ?_⟩
    refine List.forall_mem_cons.mpr ⟨fun j => deqX_load harg2 harg3 x0 x1 2688 21 rfl inb_S512x3584_S512x128_0_2688 inb_S512x28_S512x1_0_21 j, ?_⟩
    refine List.forall_mem_cons.mpr ⟨fun j => deqX_load harg2 harg3 x0 x1 2560 20 rfl inb_S512x3584_S512x128_0_2560 inb_S512x28_S512x1_0_20 j, ?_⟩
    refine List.forall_mem_cons.mpr ⟨fun j => deqX_load harg2 harg3 x0 x1 2432 19 rfl inb_S512x3584_S512x128_0_2432 inb_S512x28_S512x1_0_19 j, ?_⟩
    refine List.forall_mem_cons.mpr ⟨fun j => deqX_load harg2 harg3 x0 x1 2304 18 rfl inb_S512x3584_S512x128_0_2304 inb_S512x28_S512x1_0_18 j, ?_⟩
    refine List.forall_mem_cons.mpr ⟨fun j => deqX_load harg2 harg3 x0 x1 2176 17 rfl inb_S512x3584_S512x128_0_2176 inb_S512x28_S512x1_0_17 j, ?_⟩
    refine List.forall_mem_cons.mpr ⟨fun j => deqX_load harg2 harg3 x0 x1 2048 16 rfl inb_S512x3584_S512x128_0_2048 inb_S512x28_S512x1_0_16 j, ?_⟩
    refine List.forall_mem_cons.mpr ⟨fun j => deqX_load harg2 harg3 x0 x1 1920 15 rfl inb_S512x3584_S512x128_0_1920 inb_S512x28_S512x1_0_15 j, ?_⟩
    refine List.forall_mem_cons.mpr ⟨fun j => deqX_load harg2 harg3 x0 x1 1792 14 rfl inb_S512x3584_S512x128_0_1792 inb_S512x28_S512x1_0_14 j, ?_⟩
    refine List.forall_mem_cons.mpr ⟨fun j => deqX_load harg2 harg3 x0 x1 1664 13 rfl inb_S512x3584_S512x128_0_1664 inb_S512x28_S512x1_0_13 j, ?_⟩
    refine List.forall_mem_cons.mpr ⟨fun j => deqX_load harg2 harg3 x0 x1 1536 12 rfl inb_S512x3584_S512x128_0_1536 inb_S512x28_S512x1_0_12 j, ?_⟩
    refine List.forall_mem_cons.mpr ⟨fun j => deqX_load harg2 harg3 x0 x1 1408 11 rfl inb_S512x3584_S512x128_0_1408 inb_S512x28_S512x1_0_11 j, ?_⟩
    refine List.forall_mem_cons.mpr ⟨fun j => deqX_load harg2 harg3 x0 x1 1280 10 rfl inb_S512x3584_S512x128_0_1280 inb_S512x28_S512x1_0_10 j, ?_⟩
    refine List.forall_mem_cons.mpr ⟨fun j => deqX_load harg2 harg3 x0 x1 1152 9 rfl inb_S512x3584_S512x128_0_1152 inb_S512x28_S512x1_0_9 j, ?_⟩
    refine List.forall_mem_cons.mpr ⟨fun j => deqX_load harg2 harg3 x0 x1 1024 8 rfl inb_S512x3584_S512x128_0_1024 inb_S512x28_S512x1_0_8 j, ?_⟩
    refine List.forall_mem_cons.mpr ⟨fun j => deqX_load harg2 harg3 x0 x1 896 7 rfl inb_S512x3584_S512x128_0_896 inb_S512x28_S512x1_0_7 j, ?_⟩
    refine List.forall_mem_cons.mpr ⟨fun j => deqX_load harg2 harg3 x0 x1 768 6 rfl inb_S512x3584_S512x128_0_768 inb_S512x28_S512x1_0_6 j, ?_⟩
    refine List.forall_mem_cons.mpr ⟨fun j => deqX_load harg2 harg3 x0 x1 640 5 rfl inb_S512x3584_S512x128_0_640 inb_S512x28_S512x1_0_5 j, ?_⟩
    refine List.forall_mem_cons.mpr ⟨fun j => deqX_load harg2 harg3 x0 x1 512 4 rfl inb_S512x3584_S512x128_0_512 inb_S512x28_S512x1_0_4 j, ?_⟩
    refine List.forall_mem_cons.mpr ⟨fun j => deqX_load harg2 harg3 x0 x1 384 3 rfl inb_S512x3584_S512x128_0_384 inb_S512x28_S512x1_0_3 j, ?_⟩
    refine List.forall_mem_cons.mpr ⟨fun j => deqX_load harg2 harg3 x0 x1 256 2 rfl inb_S512x3584_S512x128_0_256 inb_S512x28_S512x1_0_2 j, ?_⟩
    refine List.forall_mem_cons.mpr ⟨fun j => deqX_load harg2 harg3 x0 x1 128 1 rfl inb_S512x3584_S512x128_0_128 inb_S512x28_S512x1_0_1 j, ?_⟩
    refine List.forall_mem_cons.mpr ⟨fun j => deqX_load harg2 harg3 x0 x1 0 0 rfl inb_S512x3584_S512x128_0_0 inb_S512x28_S512x1_0_0 j, ?_⟩
    exact fun p hp => absurd hp List.not_mem_nil
  have hD : body_B.sl.v623 c arg4 harg4 arg5 harg5 arg15 x2 x3 = deqCol bitsLt_fp8e5m2_bf16 x2 x3 := by
    unfold body_B.sl.v623
    refine readCov_of_pieces _ _ _ off2 _ (View.cover_of_tiledL _ ![512, 128] (by sl_kernel_rfl)) ?_
    refine List.forall_mem_cons.mpr ⟨fun j => deqDy_load harg4 harg5 x2 x3 3456 27 rfl inb_S512x3584_S512x128_0_3456 inb_S512x28_S512x1_0_27 j, ?_⟩
    refine List.forall_mem_cons.mpr ⟨fun j => deqDy_load harg4 harg5 x2 x3 3328 26 rfl inb_S512x3584_S512x128_0_3328 inb_S512x28_S512x1_0_26 j, ?_⟩
    refine List.forall_mem_cons.mpr ⟨fun j => deqDy_load harg4 harg5 x2 x3 3200 25 rfl inb_S512x3584_S512x128_0_3200 inb_S512x28_S512x1_0_25 j, ?_⟩
    refine List.forall_mem_cons.mpr ⟨fun j => deqDy_load harg4 harg5 x2 x3 3072 24 rfl inb_S512x3584_S512x128_0_3072 inb_S512x28_S512x1_0_24 j, ?_⟩
    refine List.forall_mem_cons.mpr ⟨fun j => deqDy_load harg4 harg5 x2 x3 2944 23 rfl inb_S512x3584_S512x128_0_2944 inb_S512x28_S512x1_0_23 j, ?_⟩
    refine List.forall_mem_cons.mpr ⟨fun j => deqDy_load harg4 harg5 x2 x3 2816 22 rfl inb_S512x3584_S512x128_0_2816 inb_S512x28_S512x1_0_22 j, ?_⟩
    refine List.forall_mem_cons.mpr ⟨fun j => deqDy_load harg4 harg5 x2 x3 2688 21 rfl inb_S512x3584_S512x128_0_2688 inb_S512x28_S512x1_0_21 j, ?_⟩
    refine List.forall_mem_cons.mpr ⟨fun j => deqDy_load harg4 harg5 x2 x3 2560 20 rfl inb_S512x3584_S512x128_0_2560 inb_S512x28_S512x1_0_20 j, ?_⟩
    refine List.forall_mem_cons.mpr ⟨fun j => deqDy_load harg4 harg5 x2 x3 2432 19 rfl inb_S512x3584_S512x128_0_2432 inb_S512x28_S512x1_0_19 j, ?_⟩
    refine List.forall_mem_cons.mpr ⟨fun j => deqDy_load harg4 harg5 x2 x3 2304 18 rfl inb_S512x3584_S512x128_0_2304 inb_S512x28_S512x1_0_18 j, ?_⟩
    refine List.forall_mem_cons.mpr ⟨fun j => deqDy_load harg4 harg5 x2 x3 2176 17 rfl inb_S512x3584_S512x128_0_2176 inb_S512x28_S512x1_0_17 j, ?_⟩
    refine List.forall_mem_cons.mpr ⟨fun j => deqDy_load harg4 harg5 x2 x3 2048 16 rfl inb_S512x3584_S512x128_0_2048 inb_S512x28_S512x1_0_16 j, ?_⟩
    refine List.forall_mem_cons.mpr ⟨fun j => deqDy_load harg4 harg5 x2 x3 1920 15 rfl inb_S512x3584_S512x128_0_1920 inb_S512x28_S512x1_0_15 j, ?_⟩
    refine List.forall_mem_cons.mpr ⟨fun j => deqDy_load harg4 harg5 x2 x3 1792 14 rfl inb_S512x3584_S512x128_0_1792 inb_S512x28_S512x1_0_14 j, ?_⟩
    refine List.forall_mem_cons.mpr ⟨fun j => deqDy_load harg4 harg5 x2 x3 1664 13 rfl inb_S512x3584_S512x128_0_1664 inb_S512x28_S512x1_0_13 j, ?_⟩
    refine List.forall_mem_cons.mpr ⟨fun j => deqDy_load harg4 harg5 x2 x3 1536 12 rfl inb_S512x3584_S512x128_0_1536 inb_S512x28_S512x1_0_12 j, ?_⟩
    refine List.forall_mem_cons.mpr ⟨fun j => deqDy_load harg4 harg5 x2 x3 1408 11 rfl inb_S512x3584_S512x128_0_1408 inb_S512x28_S512x1_0_11 j, ?_⟩
    refine List.forall_mem_cons.mpr ⟨fun j => deqDy_load harg4 harg5 x2 x3 1280 10 rfl inb_S512x3584_S512x128_0_1280 inb_S512x28_S512x1_0_10 j, ?_⟩
    refine List.forall_mem_cons.mpr ⟨fun j => deqDy_load harg4 harg5 x2 x3 1152 9 rfl inb_S512x3584_S512x128_0_1152 inb_S512x28_S512x1_0_9 j, ?_⟩
    refine List.forall_mem_cons.mpr ⟨fun j => deqDy_load harg4 harg5 x2 x3 1024 8 rfl inb_S512x3584_S512x128_0_1024 inb_S512x28_S512x1_0_8 j, ?_⟩
    refine List.forall_mem_cons.mpr ⟨fun j => deqDy_load harg4 harg5 x2 x3 896 7 rfl inb_S512x3584_S512x128_0_896 inb_S512x28_S512x1_0_7 j, ?_⟩
    refine List.forall_mem_cons.mpr ⟨fun j => deqDy_load harg4 harg5 x2 x3 768 6 rfl inb_S512x3584_S512x128_0_768 inb_S512x28_S512x1_0_6 j, ?_⟩
    refine List.forall_mem_cons.mpr ⟨fun j => deqDy_load harg4 harg5 x2 x3 640 5 rfl inb_S512x3584_S512x128_0_640 inb_S512x28_S512x1_0_5 j, ?_⟩
    refine List.forall_mem_cons.mpr ⟨fun j => deqDy_load harg4 harg5 x2 x3 512 4 rfl inb_S512x3584_S512x128_0_512 inb_S512x28_S512x1_0_4 j, ?_⟩
    refine List.forall_mem_cons.mpr ⟨fun j => deqDy_load harg4 harg5 x2 x3 384 3 rfl inb_S512x3584_S512x128_0_384 inb_S512x28_S512x1_0_3 j, ?_⟩
    refine List.forall_mem_cons.mpr ⟨fun j => deqDy_load harg4 harg5 x2 x3 256 2 rfl inb_S512x3584_S512x128_0_256 inb_S512x28_S512x1_0_2 j, ?_⟩
    refine List.forall_mem_cons.mpr ⟨fun j => deqDy_load harg4 harg5 x2 x3 128 1 rfl inb_S512x3584_S512x128_0_128 inb_S512x28_S512x1_0_1 j, ?_⟩
    refine List.forall_mem_cons.mpr ⟨fun j => deqDy_load harg4 harg5 x2 x3 0 0 rfl inb_S512x3584_S512x128_0_0 inb_S512x28_S512x1_0_0 j, ?_⟩
    exact fun p hp => absurd hp List.not_mem_nil
  have h9 := readAt_whole harg11 xo9 off2 inb_S3584x512_S3584x512_0_0
  have h10 := readAt_whole harg12 xo10 off2 inb_S3584x512_S3584x512_0_0
  have h11 := readAt_whole harg13 xo11 off2 inb_S256x3584_S256x3584_0_0
  have hs2 := readAt_whole harg16 xs2 off2 inb_S256x3584_S256x3584_0_0
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    exact read_of_whole_store _ _ off2 _ _ _ _ (by unfold ptDgu; rw [hX, h9, hD, hs2])
  isplitl [H9]
  · iexists _; isplitr; · ipureintro; exact harg11.read_unread _
    iexact H9
  isplitl [H10]
  · iexists _; isplitr
    swap; · iexact H10
    ipureintro
    exact read_of_whole_store _ _ off2 _ _ _ _ (by unfold ptDwgu; rw [hX, h9, hD, hs2, h10])
  isplitl [H11]
  · iexists _; isplitr
    swap; · iexact H11
    ipureintro
    exact read_of_whole_store _ _ off2 _ _ _ _ (by unfold ptDwd; rw [show body_B.sl.r_21 c arg2 harg2 arg3 harg3 arg11 harg11 arg14 x0 x1 xo9 = k0_pay121 _ _ from congrArg₂ k0_pay121 hX h9, show body_B.sl.r_22 c arg13 harg13 xo11 = k0_pay124 _ from congrArg k0_pay124 h11, hD]; rfl)
  isplitl [HS0]
  · iexists _; iexists _; isplitr
    swap; · iexact HS0
    ipureintro; rfl
  isplitl [HS1]
  · iexists _; iexists _; isplitr
    swap; · iexact HS1
    ipureintro; rfl
  iexists _; isplitr; · ipureintro; exact harg16.read_unread _
  iexact HS2

end Cert.Kernel.Hand

end
-- ==== Proof.Kernel.BodyA.lean ====
/- The first kernel's body at the first point of a block of columns: the weight blocks are dequantized and the running sums start at zero. -/
module

public import proofs.«01_k».proof.Proof.Kernel.Spec
public import proofs.«01_k».proof.Proof.Kernel.BodyB

@[expose] public section

-- the structural walk over rectangles of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The first kernel's body at the first point of a block of columns: the weight blocks are dequantized and the running sums start at zero.
    From the eight input blocks it leaves the token gradients, the dequantized weights and the two sums of `Spec`. -/
theorem body_A (c : Dev nD) (i : grid0.Coords) (arg2 : Memref sig .tc .vmem S512x3584 .fp8e4m3) (harg2 : arg2.IsWhole) (arg3 : Memref sig .tc .vmem S512x28 .f32) (harg3 : arg3.IsWhole) (arg4 : Memref sig .tc .vmem S512x3584 .fp8e5m2) (harg4 : arg4.IsWhole) (arg5 : Memref sig .tc .vmem S512x28 .f32) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S256x3584 .fp8e4m3) (harg8 : arg8.IsWhole) (arg9 : Memref sig .tc .vmem S1x2x3584 .f32) (harg9 : arg9.IsWhole) (arg10 : Memref sig .tc .vmem S512x512 .bf16) (harg10 : arg10.IsWhole) (arg11 : Memref sig .tc .vmem S3584x512 .bf16) (harg11 : arg11.IsWhole) (arg12 : Memref sig .tc .vmem S3584x512 .f32) (harg12 : arg12.IsWhole) (arg13 : Memref sig .tc .vmem S256x3584 .f32) (harg13 : arg13.IsWhole) (arg14 : Memref sig .tc .vmem S512x3584 .bf16) (harg14 : arg14.IsWhole) (arg15 : Memref sig .tc .vmem S512x3584 .bf16) (harg15 : arg15.IsWhole) (arg16 : Memref sig .tc .vmem S256x3584 .bf16) (harg16 : arg16.IsWhole) (hc0 : k0_cond1 i = 1#1)
    (x0 : Vec F S512x3584 .fp8e4m3) (x1 : Vec F S512x28 .f32) (x2 : Vec F S512x3584 .fp8e5m2) (x3 : Vec F S512x28 .f32) (x4 : Vec F S3584x512 .fp8e4m3) (x5 : Vec F S28x512 .f32) (x6 : Vec F S256x3584 .fp8e4m3) (x7 : Vec F S1x2x3584 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (ptDgu (deqCol bitsLt_fp8e4m3_bf16 x0 x1) (deqRow x4 x5) (deqCol bitsLt_fp8e5m2_bf16 x2 x3) (deqDown x6 x7)) ∗ owns (c : Thread nD τ) arg11 fullShare (deqRow x4 x5) ∗ owns (c : Thread nD τ) arg12 fullShare (ptDwgu (deqCol bitsLt_fp8e4m3_bf16 x0 x1) (deqRow x4 x5) (deqCol bitsLt_fp8e5m2_bf16 x2 x3) (deqDown x6 x7) k0_pay38) ∗ owns (c : Thread nD τ) arg13 fullShare (ptDwd (deqCol bitsLt_fp8e4m3_bf16 x0 x1) (deqRow x4 x5) (deqCol bitsLt_fp8e5m2_bf16 x2 x3) k0_pay39) ∗ (∃ d, owns (c : Thread nD τ) arg14 fullShare d) ∗ (∃ d, owns (c : Thread nD τ) arg15 fullShare d) ∗ owns (c : Thread nD τ) arg16 fullShare (deqDown x6 x7)) -∗ K ⟨⟩))
      ⊢ wp frame (wpE (defs₀ (F := F)) Variants.none c none) E (cc0_ff_and_dw i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ff_and_dw_eq_skeleton]; unfold cc0_ff_and_dw_skel
  simp only [k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := sl_exact hc0)
  sl_step
  have hX : body_A.sl.v619 c arg2 harg2 arg3 harg3 arg14 x0 x1 = deqCol bitsLt_fp8e4m3_bf16 x0 x1 := by
    unfold body_A.sl.v619
    refine readCov_of_pieces _ _ _ off2 _ (View.cover_of_tiledL _ ![512, 128] (by sl_kernel_rfl)) ?_
    refine List.forall_mem_cons.mpr ⟨fun j => deqX_load harg2 harg3 x0 x1 3456 27 rfl inb_S512x3584_S512x128_0_3456 inb_S512x28_S512x1_0_27 j, ?_⟩
    refine List.forall_mem_cons.mpr ⟨fun j => deqX_load harg2 harg3 x0 x1 3328 26 rfl inb_S512x3584_S512x128_0_3328 inb_S512x28_S512x1_0_26 j, ?_⟩
    refine List.forall_mem_cons.mpr ⟨fun j => deqX_load harg2 harg3 x0 x1 3200 25 rfl inb_S512x3584_S512x128_0_3200 inb_S512x28_S512x1_0_25 j, ?_⟩
    refine List.forall_mem_cons.mpr ⟨fun j => deqX_load harg2 harg3 x0 x1 3072 24 rfl inb_S512x3584_S512x128_0_3072 inb_S512x28_S512x1_0_24 j, ?_⟩
    refine List.forall_mem_cons.mpr ⟨fun j => deqX_load harg2 harg3 x0 x1 2944 23 rfl inb_S512x3584_S512x128_0_2944 inb_S512x28_S512x1_0_23 j, ?_⟩
    refine List.forall_mem_cons.mpr ⟨fun j => deqX_load harg2 harg3 x0 x1 2816 22 rfl inb_S512x3584_S512x128_0_2816 inb_S512x28_S512x1_0_22 j, ?_⟩
    refine List.forall_mem_cons.mpr ⟨fun j => deqX_load harg2 harg3 x0 x1 2688 21 rfl inb_S512x3584_S512x128_0_2688 inb_S512x28_S512x1_0_21 j, ?_⟩
    refine List.forall_mem_cons.mpr ⟨fun j => deqX_load harg2 harg3 x0 x1 2560 20 rfl inb_S512x3584_S512x128_0_2560 inb_S512x28_S512x1_0_20 j, ?_⟩
    refine List.forall_mem_cons.mpr ⟨fun j => deqX_load harg2 harg3 x0 x1 2432 19 rfl inb_S512x3584_S512x128_0_2432 inb_S512x28_S512x1_0_19 j, ?_⟩
    refine List.forall_mem_cons.mpr ⟨fun j => deqX_load harg2 harg3 x0 x1 2304 18 rfl inb_S512x3584_S512x128_0_2304 inb_S512x28_S512x1_0_18 j, ?_⟩
    refine List.forall_mem_cons.mpr ⟨fun j => deqX_load harg2 harg3 x0 x1 2176 17 rfl inb_S512x3584_S512x128_0_2176 inb_S512x28_S512x1_0_17 j, ?_⟩
    refine List.forall_mem_cons.mpr ⟨fun j => deqX_load harg2 harg3 x0 x1 2048 16 rfl inb_S512x3584_S512x128_0_2048 inb_S512x28_S512x1_0_16 j, ?_⟩
    refine List.forall_mem_cons.mpr ⟨fun j => deqX_load harg2 harg3 x0 x1 1920 15 rfl inb_S512x3584_S512x128_0_1920 inb_S512x28_S512x1_0_15 j, ?_⟩
    refine List.forall_mem_cons.mpr ⟨fun j => deqX_load harg2 harg3 x0 x1 1792 14 rfl inb_S512x3584_S512x128_0_1792 inb_S512x28_S512x1_0_14 j, ?_⟩
    refine List.forall_mem_cons.mpr ⟨fun j => deqX_load harg2 harg3 x0 x1 1664 13 rfl inb_S512x3584_S512x128_0_1664 inb_S512x28_S512x1_0_13 j, ?_⟩
    refine List.forall_mem_cons.mpr ⟨fun j => deqX_load harg2 harg3 x0 x1 1536 12 rfl inb_S512x3584_S512x128_0_1536 inb_S512x28_S512x1_0_12 j, ?_⟩
    refine List.forall_mem_cons.mpr ⟨fun j => deqX_load harg2 harg3 x0 x1 1408 11 rfl inb_S512x3584_S512x128_0_1408 inb_S512x28_S512x1_0_11 j, ?_⟩
    refine List.forall_mem_cons.mpr ⟨fun j => deqX_load harg2 harg3 x0 x1 1280 10 rfl inb_S512x3584_S512x128_0_1280 inb_S512x28_S512x1_0_10 j, ?_⟩
    refine List.forall_mem_cons.mpr ⟨fun j => deqX_load harg2 harg3 x0 x1 1152 9 rfl inb_S512x3584_S512x128_0_1152 inb_S512x28_S512x1_0_9 j, ?_⟩
    refine List.forall_mem_cons.mpr ⟨fun j => deqX_load harg2 harg3 x0 x1 1024 8 rfl inb_S512x3584_S512x128_0_1024 inb_S512x28_S512x1_0_8 j, ?_⟩
    refine List.forall_mem_cons.mpr ⟨fun j => deqX_load harg2 harg3 x0 x1 896 7 rfl inb_S512x3584_S512x128_0_896 inb_S512x28_S512x1_0_7 j, ?_⟩
    refine List.forall_mem_cons.mpr ⟨fun j => deqX_load harg2 harg3 x0 x1 768 6 rfl inb_S512x3584_S512x128_0_768 inb_S512x28_S512x1_0_6 j, ?_⟩
    refine List.forall_mem_cons.mpr ⟨fun j => deqX_load harg2 harg3 x0 x1 640 5 rfl inb_S512x3584_S512x128_0_640 inb_S512x28_S512x1_0_5 j, ?_⟩
    refine List.forall_mem_cons.mpr ⟨fun j => deqX_load harg2 harg3 x0 x1 512 4 rfl inb_S512x3584_S512x128_0_512 inb_S512x28_S512x1_0_4 j, ?_⟩
    refine List.forall_mem_cons.mpr ⟨fun j => deqX_load harg2 harg3 x0 x1 384 3 rfl inb_S512x3584_S512x128_0_384 inb_S512x28_S512x1_0_3 j, ?_⟩
    refine List.forall_mem_cons.mpr ⟨fun j => deqX_load harg2 harg3 x0 x1 256 2 rfl inb_S512x3584_S512x128_0_256 inb_S512x28_S512x1_0_2 j, ?_⟩
    refine List.forall_mem_cons.mpr ⟨fun j => deqX_load harg2 harg3 x0 x1 128 1 rfl inb_S512x3584_S512x128_0_128 inb_S512x28_S512x1_0_1 j, ?_⟩
    refine List.forall_mem_cons.mpr ⟨fun j => deqX_load harg2 harg3 x0 x1 0 0 rfl inb_S512x3584_S512x128_0_0 inb_S512x28_S512x1_0_0 j, ?_⟩
    exact fun p hp => absurd hp List.not_mem_nil
  have hD : body_A.sl.v623 c arg4 harg4 arg5 harg5 arg15 x2 x3 = deqCol bitsLt_fp8e5m2_bf16 x2 x3 := by
    unfold body_A.sl.v623
    refine readCov_of_pieces _ _ _ off2 _ (View.cover_of_tiledL _ ![512, 128] (by sl_kernel_rfl)) ?_
    refine List.forall_mem_cons.mpr ⟨fun j => deqDy_load harg4 harg5 x2 x3 3456 27 rfl inb_S512x3584_S512x128_0_3456 inb_S512x28_S512x1_0_27 j, ?_⟩
    refine List.forall_mem_cons.mpr ⟨fun j => deqDy_load harg4 harg5 x2 x3 3328 26 rfl inb_S512x3584_S512x128_0_3328 inb_S512x28_S512x1_0_26 j, ?_⟩
    refine List.forall_mem_cons.mpr ⟨fun j => deqDy_load harg4 harg5 x2 x3 3200 25 rfl inb_S512x3584_S512x128_0_3200 inb_S512x28_S512x1_0_25 j, ?_⟩
    refine List.forall_mem_cons.mpr ⟨fun j => deqDy_load harg4 harg5 x2 x3 3072 24 rfl inb_S512x3584_S512x128_0_3072 inb_S512x28_S512x1_0_24 j, ?_⟩
    refine List.forall_mem_cons.mpr ⟨fun j => deqDy_load harg4 harg5 x2 x3 2944 23 rfl inb_S512x3584_S512x128_0_2944 inb_S512x28_S512x1_0_23 j, ?_⟩
    refine List.forall_mem_cons.mpr ⟨fun j => deqDy_load harg4 harg5 x2 x3 2816 22 rfl inb_S512x3584_S512x128_0_2816 inb_S512x28_S512x1_0_22 j, ?_⟩
    refine List.forall_mem_cons.mpr ⟨fun j => deqDy_load harg4 harg5 x2 x3 2688 21 rfl inb_S512x3584_S512x128_0_2688 inb_S512x28_S512x1_0_21 j, ?_⟩
    refine List.forall_mem_cons.mpr ⟨fun j => deqDy_load harg4 harg5 x2 x3 2560 20 rfl inb_S512x3584_S512x128_0_2560 inb_S512x28_S512x1_0_20 j, ?_⟩
    refine List.forall_mem_cons.mpr ⟨fun j => deqDy_load harg4 harg5 x2 x3 2432 19 rfl inb_S512x3584_S512x128_0_2432 inb_S512x28_S512x1_0_19 j, ?_⟩
    refine List.forall_mem_cons.mpr ⟨fun j => deqDy_load harg4 harg5 x2 x3 2304 18 rfl inb_S512x3584_S512x128_0_2304 inb_S512x28_S512x1_0_18 j, ?_⟩
    refine List.forall_mem_cons.mpr ⟨fun j => deqDy_load harg4 harg5 x2 x3 2176 17 rfl inb_S512x3584_S512x128_0_2176 inb_S512x28_S512x1_0_17 j, ?_⟩
    refine List.forall_mem_cons.mpr ⟨fun j => deqDy_load harg4 harg5 x2 x3 2048 16 rfl inb_S512x3584_S512x128_0_2048 inb_S512x28_S512x1_0_16 j, ?_⟩
    refine List.forall_mem_cons.mpr ⟨fun j => deqDy_load harg4 harg5 x2 x3 1920 15 rfl inb_S512x3584_S512x128_0_1920 inb_S512x28_S512x1_0_15 j, ?_⟩
    refine List.forall_mem_cons.mpr ⟨fun j => deqDy_load harg4 harg5 x2 x3 1792 14 rfl inb_S512x3584_S512x128_0_1792 inb_S512x28_S512x1_0_14 j, ?_⟩
    refine List.forall_mem_cons.mpr ⟨fun j => deqDy_load harg4 harg5 x2 x3 1664 13 rfl inb_S512x3584_S512x128_0_1664 inb_S512x28_S512x1_0_13 j, ?_⟩
    refine List.forall_mem_cons.mpr ⟨fun j => deqDy_load harg4 harg5 x2 x3 1536 12 rfl inb_S512x3584_S512x128_0_1536 inb_S512x28_S512x1_0_12 j, ?_⟩
    refine List.forall_mem_cons.mpr ⟨fun j => deqDy_load harg4 harg5 x2 x3 1408 11 rfl inb_S512x3584_S512x128_0_1408 inb_S512x28_S512x1_0_11 j, ?_⟩
    refine List.forall_mem_cons.mpr ⟨fun j => deqDy_load harg4 harg5 x2 x3 1280 10 rfl inb_S512x3584_S512x128_0_1280 inb_S512x28_S512x1_0_10 j, ?_⟩
    refine List.forall_mem_cons.mpr ⟨fun j => deqDy_load harg4 harg5 x2 x3 1152 9 rfl inb_S512x3584_S512x128_0_1152 inb_S512x28_S512x1_0_9 j, ?_⟩
    refine List.forall_mem_cons.mpr ⟨fun j => deqDy_load harg4 harg5 x2 x3 1024 8 rfl inb_S512x3584_S512x128_0_1024 inb_S512x28_S512x1_0_8 j, ?_⟩
    refine List.forall_mem_cons.mpr ⟨fun j => deqDy_load harg4 harg5 x2 x3 896 7 rfl inb_S512x3584_S512x128_0_896 inb_S512x28_S512x1_0_7 j, ?_⟩
    refine List.forall_mem_cons.mpr ⟨fun j => deqDy_load harg4 harg5 x2 x3 768 6 rfl inb_S512x3584_S512x128_0_768 inb_S512x28_S512x1_0_6 j, ?_⟩
    refine List.forall_mem_cons.mpr ⟨fun j => deqDy_load harg4 harg5 x2 x3 640 5 rfl inb_S512x3584_S512x128_0_640 inb_S512x28_S512x1_0_5 j, ?_⟩
    refine List.forall_mem_cons.mpr ⟨fun j => deqDy_load harg4 harg5 x2 x3 512 4 rfl inb_S512x3584_S512x128_0_512 inb_S512x28_S512x1_0_4 j, ?_⟩
    refine List.forall_mem_cons.mpr ⟨fun j => deqDy_load harg4 harg5 x2 x3 384 3 rfl inb_S512x3584_S512x128_0_384 inb_S512x28_S512x1_0_3 j, ?_⟩
    refine List.forall_mem_cons.mpr ⟨fun j => deqDy_load harg4 harg5 x2 x3 256 2 rfl inb_S512x3584_S512x128_0_256 inb_S512x28_S512x1_0_2 j, ?_⟩
    refine List.forall_mem_cons.mpr ⟨fun j => deqDy_load harg4 harg5 x2 x3 128 1 rfl inb_S512x3584_S512x128_0_128 inb_S512x28_S512x1_0_1 j, ?_⟩
    refine List.forall_mem_cons.mpr ⟨fun j => deqDy_load harg4 harg5 x2 x3 0 0 rfl inb_S512x3584_S512x128_0_0 inb_S512x28_S512x1_0_0 j, ?_⟩
    exact fun p hp => absurd hp List.not_mem_nil
  have hW : body_A.sl.v620 c arg6 harg6 arg7 harg7 arg11 x4 x5 = deqRow x4 x5 := by
    unfold body_A.sl.v620
    refine readCov_of_pieces _ _ _ off2 _ (View.cover_of_tiledL _ ![128, 512] (by sl_kernel_rfl)) ?_
    refine List.forall_mem_cons.mpr ⟨fun j => deqRow_load harg6 harg7 x4 x5 3456 27 rfl inb_S3584x512_S128x512_3456_0 j, ?_⟩
    refine List.forall_mem_cons.mpr ⟨fun j => deqRow_load harg6 harg7 x4 x5 3328 26 rfl inb_S3584x512_S128x512_3328_0 j, ?_⟩
    refine List.forall_mem_cons.mpr ⟨fun j => deqRow_load harg6 harg7 x4 x5 3200 25 rfl inb_S3584x512_S128x512_3200_0 j, ?_⟩
    refine List.forall_mem_cons.mpr ⟨fun j => deqRow_load harg6 harg7 x4 x5 3072 24 rfl inb_S3584x512_S128x512_3072_0 j, ?_⟩
    refine List.forall_mem_cons.mpr ⟨fun j => deqRow_load harg6 harg7 x4 x5 2944 23 rfl inb_S3584x512_S128x512_2944_0 j, ?_⟩
    refine List.forall_mem_cons.mpr ⟨fun j => deqRow_load harg6 harg7 x4 x5 2816 22 rfl inb_S3584x512_S128x512_2816_0 j, ?_⟩
    refine List.forall_mem_cons.mpr ⟨fun j => deqRow_load harg6 harg7 x4 x5 2688 21 rfl inb_S3584x512_S128x512_2688_0 j, ?_⟩
    refine List.forall_mem_cons.mpr ⟨fun j => deqRow_load harg6 harg7 x4 x5 2560 20 rfl inb_S3584x512_S128x512_2560_0 j, ?_⟩
    refine List.forall_mem_cons.mpr ⟨fun j => deqRow_load harg6 harg7 x4 x5 2432 19 rfl inb_S3584x512_S128x512_2432_0 j, ?_⟩
    refine List.forall_mem_cons.mpr ⟨fun j => deqRow_load harg6 harg7 x4 x5 2304 18 rfl inb_S3584x512_S128x512_2304_0 j, ?_⟩
    refine List.forall_mem_cons.mpr ⟨fun j => deqRow_load harg6 harg7 x4 x5 2176 17 rfl inb_S3584x512_S128x512_2176_0 j, ?_⟩
    refine List.forall_mem_cons.mpr ⟨fun j => deqRow_load harg6 harg7 x4 x5 2048 16 rfl inb_S3584x512_S128x512_2048_0 j, ?_⟩
    refine List.forall_mem_cons.mpr ⟨fun j => deqRow_load harg6 harg7 x4 x5 1920 15 rfl inb_S3584x512_S128x512_1920_0 j, ?_⟩
    refine List.forall_mem_cons.mpr ⟨fun j => deqRow_load harg6 harg7 x4 x5 1792 14 rfl inb_S3584x512_S128x512_1792_0 j, ?_⟩
    refine List.forall_mem_cons.mpr ⟨fun j => deqRow_load harg6 harg7 x4 x5 1664 13 rfl inb_S3584x512_S128x512_1664_0 j, ?_⟩
    refine List.forall_mem_cons.mpr ⟨fun j => deqRow_load harg6 harg7 x4 x5 1536 12 rfl inb_S3584x512_S128x512_1536_0 j, ?_⟩
    refine List.forall_mem_cons.mpr ⟨fun j => deqRow_load harg6 harg7 x4 x5 1408 11 rfl inb_S3584x512_S128x512_1408_0 j, ?_⟩
    refine List.forall_mem_cons.mpr ⟨fun j => deqRow_load harg6 harg7 x4 x5 1280 10 rfl inb_S3584x512_S128x512_1280_0 j, ?_⟩
    refine List.forall_mem_cons.mpr ⟨fun j => deqRow_load harg6 harg7 x4 x5 1152 9 rfl inb_S3584x512_S128x512_1152_0 j, ?_⟩
    refine List.forall_mem_cons.mpr ⟨fun j => deqRow_load harg6 harg7 x4 x5 1024 8 rfl inb_S3584x512_S128x512_1024_0 j, ?_⟩
    refine List.forall_mem_cons.mpr ⟨fun j => deqRow_load harg6 harg7 x4 x5 896 7 rfl inb_S3584x512_S128x512_896_0 j, ?_⟩
    refine List.forall_mem_cons.mpr ⟨fun j => deqRow_load harg6 harg7 x4 x5 768 6 rfl inb_S3584x512_S128x512_768_0 j, ?_⟩
    refine List.forall_mem_cons.mpr ⟨fun j => deqRow_load harg6 harg7 x4 x5 640 5 rfl inb_S3584x512_S128x512_640_0 j, ?_⟩
    refine List.forall_mem_cons.mpr ⟨fun j => deqRow_load harg6 harg7 x4 x5 512 4 rfl inb_S3584x512_S128x512_512_0 j, ?_⟩
    refine List.forall_mem_cons.mpr ⟨fun j => deqRow_load harg6 harg7 x4 x5 384 3 rfl inb_S3584x512_S128x512_384_0 j, ?_⟩
    refine List.forall_mem_cons.mpr ⟨fun j => deqRow_load harg6 harg7 x4 x5 256 2 rfl inb_S3584x512_S128x512_256_0 j, ?_⟩
    refine List.forall_mem_cons.mpr ⟨fun j => deqRow_load harg6 harg7 x4 x5 128 1 rfl inb_S3584x512_S128x512_128_0 j, ?_⟩
    refine List.forall_mem_cons.mpr ⟨fun j => deqRow_load harg6 harg7 x4 x5 0 0 rfl inb_S3584x512_S128x512_0_0 j, ?_⟩
    exact fun p hp => absurd hp List.not_mem_nil
  have hS : body_A.sl.v624 c arg8 harg8 arg9 harg9 arg16 x6 x7 = deqDown x6 x7 := by
    unfold body_A.sl.v624
    refine readCov_of_pieces _ _ _ off2 _ (View.cover_of_tiledL _ ![128, 3584] (by sl_kernel_rfl)) ?_
    refine List.forall_mem_cons.mpr ⟨fun j => deqDown_load harg8 harg9 x6 x7 128 1 (by decide) rfl inb_S256x3584_S128x3584_128_0 j, ?_⟩
    refine List.forall_mem_cons.mpr ⟨fun j => deqDown_load harg8 harg9 x6 x7 0 0 (by decide) rfl inb_S256x3584_S128x3584_0_0 j, ?_⟩
    exact fun p hp => absurd hp List.not_mem_nil
  have h10 : body_A.sl.v646 (F := F) c arg12 = k0_pay38 := by
    unfold body_A.sl.v646
    exact View.readCov_unit_zero _ off2 _ _
  have h11 : body_A.sl.v652 (F := F) c arg13 = k0_pay39 := by
    unfold body_A.sl.v652
    exact View.readCov_unit_zero _ off2 _ _
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine read_of_whole_store _ _ off2 _ _ _ _ ?_
    unfold ptDgu
    rw [hX, hW, hD, hS]
  isplitl [H9]
  · iexists _; isplitr
    swap; · iexact H9
    ipureintro
    refine read_of_pieces _ _ _ _ (View.cover_of_tiledL _ ![128, 512] (by sl_kernel_rfl)) ?_
    refine List.forall_mem_cons.mpr ⟨fun j => deqRow_load harg6 harg7 x4 x5 3456 27 rfl inb_S3584x512_S128x512_3456_0 j, ?_⟩
    refine List.forall_mem_cons.mpr ⟨fun j => deqRow_load harg6 harg7 x4 x5 3328 26 rfl inb_S3584x512_S128x512_3328_0 j, ?_⟩
    refine List.forall_mem_cons.mpr ⟨fun j => deqRow_load harg6 harg7 x4 x5 3200 25 rfl inb_S3584x512_S128x512_3200_0 j, ?_⟩
    refine List.forall_mem_cons.mpr ⟨fun j => deqRow_load harg6 harg7 x4 x5 3072 24 rfl inb_S3584x512_S128x512_3072_0 j, ?_⟩
    refine List.forall_mem_cons.mpr ⟨fun j => deqRow_load harg6 harg7 x4 x5 2944 23 rfl inb_S3584x512_S128x512_2944_0 j, ?_⟩
    refine List.forall_mem_cons.mpr ⟨fun j => deqRow_load harg6 harg7 x4 x5 2816 22 rfl inb_S3584x512_S128x512_2816_0 j, ?_⟩
    refine List.forall_mem_cons.mpr ⟨fun j => deqRow_load harg6 harg7 x4 x5 2688 21 rfl inb_S3584x512_S128x512_2688_0 j, ?_⟩
    refine List.forall_mem_cons.mpr ⟨fun j => deqRow_load harg6 harg7 x4 x5 2560 20 rfl inb_S3584x512_S128x512_2560_0 j, ?_⟩
    refine List.forall_mem_cons.mpr ⟨fun j => deqRow_load harg6 harg7 x4 x5 2432 19 rfl inb_S3584x512_S128x512_2432_0 j, ?_⟩
    refine List.forall_mem_cons.mpr ⟨fun j => deqRow_load harg6 harg7 x4 x5 2304 18 rfl inb_S3584x512_S128x512_2304_0 j, ?_⟩
    refine List.forall_mem_cons.mpr ⟨fun j => deqRow_load harg6 harg7 x4 x5 2176 17 rfl inb_S3584x512_S128x512_2176_0 j, ?_⟩
    refine List.forall_mem_cons.mpr ⟨fun j => deqRow_load harg6 harg7 x4 x5 2048 16 rfl inb_S3584x512_S128x512_2048_0 j, ?_⟩
    refine List.forall_mem_cons.mpr ⟨fun j => deqRow_load harg6 harg7 x4 x5 1920 15 rfl inb_S3584x512_S128x512_1920_0 j, ?_⟩
    refine List.forall_mem_cons.mpr ⟨fun j => deqRow_load harg6 harg7 x4 x5 1792 14 rfl inb_S3584x512_S128x512_1792_0 j, ?_⟩
    refine List.forall_mem_cons.mpr ⟨fun j => deqRow_load harg6 harg7 x4 x5 1664 13 rfl inb_S3584x512_S128x512_1664_0 j, ?_⟩
    refine List.forall_mem_cons.mpr ⟨fun j => deqRow_load harg6 harg7 x4 x5 1536 12 rfl inb_S3584x512_S128x512_1536_0 j, ?_⟩
    refine List.forall_mem_cons.mpr ⟨fun j => deqRow_load harg6 harg7 x4 x5 1408 11 rfl inb_S3584x512_S128x512_1408_0 j, ?_⟩
    refine List.forall_mem_cons.mpr ⟨fun j => deqRow_load harg6 harg7 x4 x5 1280 10 rfl inb_S3584x512_S128x512_1280_0 j, ?_⟩
    refine List.forall_mem_cons.mpr ⟨fun j => deqRow_load harg6 harg7 x4 x5 1152 9 rfl inb_S3584x512_S128x512_1152_0 j, ?_⟩
    refine List.forall_mem_cons.mpr ⟨fun j => deqRow_load harg6 harg7 x4 x5 1024 8 rfl inb_S3584x512_S128x512_1024_0 j, ?_⟩
    refine List.forall_mem_cons.mpr ⟨fun j => deqRow_load harg6 harg7 x4 x5 896 7 rfl inb_S3584x512_S128x512_896_0 j, ?_⟩
    refine List.forall_mem_cons.mpr ⟨fun j => deqRow_load harg6 harg7 x4 x5 768 6 rfl inb_S3584x512_S128x512_768_0 j, ?_⟩
    refine List.forall_mem_cons.mpr ⟨fun j => deqRow_load harg6 harg7 x4 x5 640 5 rfl inb_S3584x512_S128x512_640_0 j, ?_⟩
    refine List.forall_mem_cons.mpr ⟨fun j => deqRow_load harg6 harg7 x4 x5 512 4 rfl inb_S3584x512_S128x512_512_0 j, ?_⟩
    refine List.forall_mem_cons.mpr ⟨fun j => deqRow_load harg6 harg7 x4 x5 384 3 rfl inb_S3584x512_S128x512_384_0 j, ?_⟩
    refine List.forall_mem_cons.mpr ⟨fun j => deqRow_load harg6 harg7 x4 x5 256 2 rfl inb_S3584x512_S128x512_256_0 j, ?_⟩
    refine List.forall_mem_cons.mpr ⟨fun j => deqRow_load harg6 harg7 x4 x5 128 1 rfl inb_S3584x512_S128x512_128_0 j, ?_⟩
    refine List.forall_mem_cons.mpr ⟨fun j => deqRow_load harg6 harg7 x4 x5 0 0 rfl inb_S3584x512_S128x512_0_0 j, ?_⟩
    exact fun p hp => absurd hp List.not_mem_nil
  isplitl [H10]
  · iexists _; isplitr
    swap; · iexact H10
    ipureintro
    refine read_of_whole_store _ _ off2 _ _ _ _ ?_
    unfold ptDwgu
    rw [hX, hW, hD, hS, h10]
  isplitl [H11]
  · iexists _; isplitr
    swap; · iexact H11
    ipureintro
    refine read_of_whole_store _ _ off2 _ _ _ _ ?_
    unfold ptDwd
    unfold body_A.sl.r_28 body_A.sl.r_29 body_A.sl.cst_306
    rw [hX, hW, hD, h11]
  isplitl [HS0]
  · iexists _; iexists _; isplitr
    swap; · iexact HS0
    ipureintro; rfl
  isplitl [HS1]
  · iexists _; iexists _; isplitr
    swap; · iexact HS1
    ipureintro; rfl
  iexists _; isplitr
  swap; · iexact HS2
  ipureintro
  refine read_of_pieces _ _ _ _ (View.cover_of_tiledL _ ![128, 3584] (by sl_kernel_rfl)) ?_
  refine List.forall_mem_cons.mpr ⟨fun j => deqDown_load harg8 harg9 x6 x7 128 1 (by decide) rfl inb_S256x3584_S128x3584_128_0 j, ?_⟩
  refine List.forall_mem_cons.mpr ⟨fun j => deqDown_load harg8 harg9 x6 x7 0 0 (by decide) rfl inb_S256x3584_S128x3584_0_0 j, ?_⟩
  exact fun p hp => absurd hp List.not_mem_nil

end Cert.Kernel.Hand

end
-- ==== Proof.Kernel.Region0.lean ====
/- The first kernel on the pipeline: what every window's buffer holds at every grid point, and the body's obligation.
   The grid has 19 blocks of columns by 128 tiles of 512 tokens; point `t` is tile `t % 128` of column block `t / 128`. -/
module

public import proofs.«01_k».proof.Proof.Kernel.BodyA
public import proofs.«01_k».proof.Proof.Kernel.BodyB
public import proofs.«01_k».proof.Proof.Gen.Kernel.Points
public import Idealize.ShloMosaic.Lib.Pipeline.FrameBody
public import Idealize.ShloMosaic.Lib.Pipeline.TableIdle
public import Idealize.ShloMosaic.Lib.WordCmp

@[expose] public section

-- the structural walk over rectangles of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or carried from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 1 (the scales of the tokens) holds its block, for any record whose body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 2 (the codes of the upstream gradients) holds its block, for any record whose body leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 3 (the scales of the upstream gradients) holds its block, for any record whose body leaves it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 4 (the codes of the gate and up weights) holds its block, for any record whose body leaves it in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 5 (the scales of the gate and up weights) holds its block, for any record whose body leaves it in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 6 (the codes of the down weights) holds its block, for any record whose body leaves it in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 7 (the scales of the down weights) holds its block, for any record whose body leaves it in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The dequantized blocks of a point, and the running sums -/

/-- The point's tokens, dequantized. -/
def xbAt (c : Dev nD) (t : Fin cfg0.N) : Vec F S512x3584 .bf16 := deqCol bitsLt_fp8e4m3_bf16 (iblk0 V c 0 t : Vec F S512x3584 .fp8e4m3) (iblk0 V c 1 t)
/-- The point's output gradients, dequantized. -/
def dybAt (c : Dev nD) (t : Fin cfg0.N) : Vec F S512x3584 .bf16 := deqCol bitsLt_fp8e5m2_bf16 (iblk0 V c 2 t : Vec F S512x3584 .fp8e5m2) (iblk0 V c 3 t)
/-- The point's gate and up columns, dequantized. -/
def wguAt (c : Dev nD) (t : Fin cfg0.N) : Vec F S3584x512 .bf16 := deqRow (iblk0 V c 4 t) (iblk0 V c 5 t)
/-- The point's down rows, dequantized. -/
def wdbAt (c : Dev nD) (t : Fin cfg0.N) : Vec F S256x3584 .bf16 := deqDown (iblk0 V c 6 t) (iblk0 V c 7 t)

/-- The running gate and up weight gradient after point `n`: it restarts from zero at the first tile of a column block. -/
def dwguAt (c : Dev nD) : (n : ℕ) → n < cfg0.N → Vec F S3584x512 .f32
  | 0, h => ptDwgu (xbAt V c ⟨0, h⟩) (wguAt V c ⟨0, h⟩) (dybAt V c ⟨0, h⟩) (wdbAt V c ⟨0, h⟩) k0_pay38
  | n + 1, h => ptDwgu (xbAt V c ⟨n + 1, h⟩) (wguAt V c ⟨n + 1, h⟩) (dybAt V c ⟨n + 1, h⟩) (wdbAt V c ⟨n + 1, h⟩)
      (if (n + 1) % 128 = 0 then k0_pay38 else dwguAt c n (Nat.lt_of_succ_lt h))
/-- The running down weight gradient after point `n`, likewise. -/
def dwdAt (c : Dev nD) : (n : ℕ) → n < cfg0.N → Vec F S256x3584 .f32
  | 0, h => ptDwd (xbAt V c ⟨0, h⟩) (wguAt V c ⟨0, h⟩) (dybAt V c ⟨0, h⟩) k0_pay39
  | n + 1, h => ptDwd (xbAt V c ⟨n + 1, h⟩) (wguAt V c ⟨n + 1, h⟩) (dybAt V c ⟨n + 1, h⟩)
      (if (n + 1) % 128 = 0 then k0_pay39 else dwdAt c n (Nat.lt_of_succ_lt h))

/-- At the first token tile the gate and up weight sum starts from zeros. -/
theorem dwguAt_A (c : Dev nD) (t : Fin cfg0.N) (h : t.val % 128 = 0) :
    dwguAt V c t.val t.isLt = ptDwgu (xbAt V c t) (wguAt V c t) (dybAt V c t) (wdbAt V c t) k0_pay38 := by
  obtain ⟨n, hn⟩ := t
  cases n with
  | zero => rfl
  | succ n => exact congrArg (ptDwgu _ _ _ _) (if_pos h)
/-- At a later token tile the gate and up weight sum continues from the point before. -/
theorem dwguAt_B (c : Dev nD) (t : Fin cfg0.N) (h : ¬t.val % 128 = 0) :
    dwguAt V c t.val t.isLt = ptDwgu (xbAt V c t) (wguAt V c t) (dybAt V c t) (wdbAt V c t) (dwguAt V c (t.val - 1) (Nat.lt_of_le_of_lt (Nat.sub_le _ _) t.isLt)) := by
  obtain ⟨n, hn⟩ := t
  cases n with
  | zero => exact absurd (Nat.zero_mod _) h
  | succ n => exact congrArg (ptDwgu _ _ _ _) (if_neg h)
/-- At the first token tile the down weight sum starts from zeros. -/
theorem dwdAt_A (c : Dev nD) (t : Fin cfg0.N) (h : t.val % 128 = 0) :
    dwdAt V c t.val t.isLt = ptDwd (xbAt V c t) (wguAt V c t) (dybAt V c t) k0_pay39 := by
  obtain ⟨n, hn⟩ := t
  cases n with
  | zero => rfl
  | succ n => exact congrArg (ptDwd _ _ _) (if_pos h)
/-- At a later token tile the down weight sum continues from the point before. -/
theorem dwdAt_B (c : Dev nD) (t : Fin cfg0.N) (h : ¬t.val % 128 = 0) :
    dwdAt V c t.val t.isLt = ptDwd (xbAt V c t) (wguAt V c t) (dybAt V c t) (dwdAt V c (t.val - 1) (Nat.lt_of_le_of_lt (Nat.sub_le _ _) t.isLt)) := by
  obtain ⟨n, hn⟩ := t
  cases n with
  | zero => exact absurd (Nat.zero_mod _) h
  | succ n => exact congrArg (ptDwd _ _ _) (if_neg h)

/-! ## When the weight blocks are dequantized -/

/-- The body's condition holds at the first tile of a column block. -/
theorem hcond0 (t : Fin cfg0.N) : k0_cond1 (grid0.coords t) = 1#1 ↔ t.val % 128 = 0 := by
  have ht : t.val < 2432 := Nat.lt_of_lt_of_eq t.isLt N_0
  have e0 : (grid0.coords t 0).val = t.val / 128 % 19 := Pipeline.Grid.coords_val t 0 (by decide) rfl
  have e1 : (grid0.coords t 1).val = t.val / 1 % 128 := Pipeline.Grid.coords_val t 1 (by decide) rfl
  simp only [k0_cond1, e0, e1]
  word_cmp

/-- The dequantized gate and up weights' buffer is stored into at the first tile of a column block alone. -/
theorem idle0_9 (t : Fin cfg0.N) : cfg0.idle 9 (grid0.coords t) = !decide (t.val % 128 = 0) := by
  show (!(k0_cond1 (grid0.coords t) == 1#1)) = _
  congr 1
  rw [Bool.eq_iff_iff, beq_iff_eq, decide_eq_true_iff]
  exact hcond0 t
/-- and so holds nothing of its block exactly when a column block begins. -/
theorem fresh0_9 (t : Fin cfg0.N) : cfg0.fresh 9 t.val = decide (t.val % 128 = 0) := by
  refine Pipeline.Cfg.fresh_tab cfg0 9 (fun n => decide (n % 128 = 0)) rfl (fun t => ?_) t.val (Nat.le_of_lt t.isLt)
  have hi : cfg0.idle 9 (cfg0.grid.coords t) = !decide (t.val % 128 = 0) := idle0_9 t
  have hf : (cfg0.win 9).flush t = decide (t.val % 128 = 127) := by
    rw [Bool.eq_iff_iff, decide_eq_true_iff]; exact flush0_9 t
  rw [hi, hf]
  by_cases h : t.val % 128 = 0 <;> by_cases h' : t.val % 128 = 127 <;> simp [h, h'] <;> omega

/-! ## The pipeline's proof data -/

/-- The scratch buffers. -/
abbrev scM0_0 : Memref sig .tc .vmem S512x3584 .bf16 := Memref.whole cc0_scratch0
/-- The scratch array of the dequantized upstream gradients. -/
abbrev scM0_1 : Memref sig .tc .vmem S512x3584 .bf16 := Memref.whole cc0_scratch1
/-- The scratch array of the dequantized down weights. -/
abbrev scM0_2 : Memref sig .tc .vmem S256x3584 .bf16 := Memref.whole cc0_scratch2

/-- The second kernel's staging buffers, at some contents: this region leaves them alone. -/
def stg1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's scoped rest, with the scratch buffers as owned buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ stg1 c) ∗ (∃ r, prngReg c r)) := by
  unfold Pipeline.ΦA stg1; rw [scopedRest0_eq]; simp only [scM0_0, scM0_1, scM0_2, owns_whole]; try rfl

/-- What the region holds beside its windows before point `n`: at the start, its scratch at anything; later, the third
    scratch buffer at the down rows the point before used. -/
def PhiS (c : Dev nD) : (n : ℕ) → n ≤ cfg0.N → sProp 𝕄
  | 0, _ => Pipeline.ΦA spec0 c
  | n + 1, h => iprop(iprop((∃ d, owns (c : Thread nD τ) scM0_0 fullShare d) ∗ (∃ d, owns (c : Thread nD τ) scM0_1 fullShare d)
      ∗ owns (c : Thread nD τ) scM0_2 fullShare (wdbAt V c ⟨n, h⟩) ∗ stg1 c) ∗ (∃ r, prngReg c r))
/-- Before the first point nothing is known about the scratch arrays. -/
theorem PhiS_zero (c : Dev nD) (n : ℕ) (h : n ≤ cfg0.N) (hz : n = 0) : PhiS V c n h = Pipeline.ΦA spec0 c := by subst hz; rfl
/-- Before any later point the down weight scratch holds the dequantized block of the point before. -/
theorem PhiS_pos (c : Dev nD) (n : ℕ) (h : n ≤ cfg0.N) (hz : n ≠ 0) :
    PhiS V c n h = iprop(iprop((∃ d, owns (c : Thread nD τ) scM0_0 fullShare d) ∗ (∃ d, owns (c : Thread nD τ) scM0_1 fullShare d)
      ∗ owns (c : Thread nD τ) scM0_2 fullShare (wdbAt V c ⟨n - 1, by omega⟩) ∗ stg1 c) ∗ (∃ r, prngReg c r)) := by
  cases n with
  | zero => exact absurd rfl hz
  | succ n => rfl

/-- The proof data: the arrays as the region finds them, every input window's block left in place, and the outputs at
    the token gradients, the dequantized gate and up weights and the two running sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => ptDgu (xbAt V c t) (wguAt V c t) (dybAt V c t) (wdbAt V c t)
    | ⟨9, _⟩ => wguAt V c t
    | ⟨10, _⟩ => dwguAt V c t.val t.isLt
    | ⟨11, _⟩ => dwdAt V c t.val t.isLt
  Φ t := PhiS V c t.val (Nat.le_of_lt_succ t.isLt)
  q _ := fullShare
  owed _ := 0

/-- The proof data's arrays are the contents at the region's entry. -/
theorem A_eq0 (c : Dev nD) (w : Fin cfg0.W) : (dat0 V c).A w = V c (Pipeline.arrRef spec0 w) := by
  dsimp only [dat0]
/-- The assertion carried into a point is the one stated for its position in the run. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window. -/
theorem after0_0 (c : Dev nD) (t : Fin cfg0.N) : (dat0 V c).after 0 t = iblk0 V c 0 t := by dsimp only [dat0]
/-- The body leaves input window 1 (the scales of the tokens) as it was. -/
theorem after0_1 (c : Dev nD) (t : Fin cfg0.N) : (dat0 V c).after 1 t = iblk0 V c 1 t := by dsimp only [dat0]
/-- The body leaves input window 2 (the codes of the upstream gradients) as it was. -/
theorem after0_2 (c : Dev nD) (t : Fin cfg0.N) : (dat0 V c).after 2 t = iblk0 V c 2 t := by dsimp only [dat0]
/-- The body leaves input window 3 (the scales of the upstream gradients) as it was. -/
theorem after0_3 (c : Dev nD) (t : Fin cfg0.N) : (dat0 V c).after 3 t = iblk0 V c 3 t := by dsimp only [dat0]
/-- The body leaves input window 4 (the codes of the gate and up weights) as it was. -/
theorem after0_4 (c : Dev nD) (t : Fin cfg0.N) : (dat0 V c).after 4 t = iblk0 V c 4 t := by dsimp only [dat0]
/-- The body leaves input window 5 (the scales of the gate and up weights) as it was. -/
theorem after0_5 (c : Dev nD) (t : Fin cfg0.N) : (dat0 V c).after 5 t = iblk0 V c 5 t := by dsimp only [dat0]
/-- The body leaves input window 6 (the codes of the down weights) as it was. -/
theorem after0_6 (c : Dev nD) (t : Fin cfg0.N) : (dat0 V c).after 6 t = iblk0 V c 6 t := by dsimp only [dat0]
/-- The body leaves input window 7 (the scales of the down weights) as it was. -/
theorem after0_7 (c : Dev nD) (t : Fin cfg0.N) : (dat0 V c).after 7 t = iblk0 V c 7 t := by dsimp only [dat0]
/-- The body leaves the block of pre-activation gradients in window 8. -/
theorem after0_8 (c : Dev nD) (t : Fin cfg0.N) : (dat0 V c).after 8 t = ptDgu (xbAt V c t) (wguAt V c t) (dybAt V c t) (wdbAt V c t) := by dsimp only [dat0]
/-- The body leaves the dequantized gate and up weights in window 9. -/
theorem after0_9 (c : Dev nD) (t : Fin cfg0.N) : (dat0 V c).after 9 t = wguAt V c t := by dsimp only [dat0]
/-- The body leaves the running gate and up weight sum in window 10. -/
theorem after0_10 (c : Dev nD) (t : Fin cfg0.N) : (dat0 V c).after 10 t = dwguAt V c t.val t.isLt := by dsimp only [dat0]
/-- The body leaves the running down weight sum in window 11. -/
theorem after0_11 (c : Dev nD) (t : Fin cfg0.N) : (dat0 V c).after 11 t = dwdAt V c t.val t.isLt := by dsimp only [dat0]

/-- Each input's current buffer holds its block. -/
theorem before0_0 (c : Dev nD) (t : Fin cfg0.N) (d) : (dat0 V c).before 0 t d = iblk0 V c 0 t :=
  before0_0_of V (dat0 V c) (A_eq0 V c 0) (after0_0 V c) t d
/-- Before the body, input window 1 (the scales of the tokens) holds its block. -/
theorem before0_1 (c : Dev nD) (t : Fin cfg0.N) (d) : (dat0 V c).before 1 t d = iblk0 V c 1 t :=
  before0_1_of V (dat0 V c) (A_eq0 V c 1) (after0_1 V c) t d
/-- Before the body, input window 2 (the codes of the upstream gradients) holds its block. -/
theorem before0_2 (c : Dev nD) (t : Fin cfg0.N) (d) : (dat0 V c).before 2 t d = iblk0 V c 2 t :=
  before0_2_of V (dat0 V c) (A_eq0 V c 2) (after0_2 V c) t d
/-- Before the body, input window 3 (the scales of the upstream gradients) holds its block. -/
theorem before0_3 (c : Dev nD) (t : Fin cfg0.N) (d) : (dat0 V c).before 3 t d = iblk0 V c 3 t :=
  before0_3_of V (dat0 V c) (A_eq0 V c 3) (after0_3 V c) t d
/-- Before the body, input window 4 (the codes of the gate and up weights) holds its block. -/
theorem before0_4 (c : Dev nD) (t : Fin cfg0.N) (d) : (dat0 V c).before 4 t d = iblk0 V c 4 t :=
  before0_4_of V (dat0 V c) (A_eq0 V c 4) (after0_4 V c) t d
/-- Before the body, input window 5 (the scales of the gate and up weights) holds its block. -/
theorem before0_5 (c : Dev nD) (t : Fin cfg0.N) (d) : (dat0 V c).before 5 t d = iblk0 V c 5 t :=
  before0_5_of V (dat0 V c) (A_eq0 V c 5) (after0_5 V c) t d
/-- Before the body, input window 6 (the codes of the down weights) holds its block. -/
theorem before0_6 (c : Dev nD) (t : Fin cfg0.N) (d) : (dat0 V c).before 6 t d = iblk0 V c 6 t :=
  before0_6_of V (dat0 V c) (A_eq0 V c 6) (after0_6 V c) t d
/-- Before the body, input window 7 (the scales of the down weights) holds its block. -/
theorem before0_7 (c : Dev nD) (t : Fin cfg0.N) (d) : (dat0 V c).before 7 t d = iblk0 V c 7 t :=
  before0_7_of V (dat0 V c) (A_eq0 V c 7) (after0_7 V c) t d

/-! ## What does not move within a column block -/

/-- An input window's block is the one at the point before, where the window is not fetched anew. -/
theorem iblk0_4_pred (c : Dev nD) (t : Fin cfg0.N) (h : ¬t.val % 128 = 0) :
    iblk0 V c 4 ⟨t.val - 1, Nat.lt_of_le_of_lt (Nat.sub_le _ _) t.isLt⟩ = iblk0 V c 4 t := by
  have hf : (cfg0.win 4).fetch t = false := Bool.eq_false_iff.mpr fun hf => h ((fetch0_4 t).mp hf)
  have d : (cfg0.win 4).block.Idx → Elt F (cfg0.win 4).elt := iblk0 V c 4 t
  have e := (dat0 V c).before_unfetched_in 4 rfl t hf (fun _ => rfl) d
  rw [before0_4] at e
  rw [e]
  exact (after0_4 V c _).symm
/-- Away from the first token tile the block of gate and up scales is that of the point before. -/
theorem iblk0_5_pred (c : Dev nD) (t : Fin cfg0.N) (h : ¬t.val % 128 = 0) :
    iblk0 V c 5 ⟨t.val - 1, Nat.lt_of_le_of_lt (Nat.sub_le _ _) t.isLt⟩ = iblk0 V c 5 t := by
  have hf : (cfg0.win 5).fetch t = false := Bool.eq_false_iff.mpr fun hf => h ((fetch0_5 t).mp hf)
  have d : (cfg0.win 5).block.Idx → Elt F (cfg0.win 5).elt := iblk0 V c 5 t
  have e := (dat0 V c).before_unfetched_in 5 rfl t hf (fun _ => rfl) d
  rw [before0_5] at e
  rw [e]
  exact (after0_5 V c _).symm
/-- Away from the first token tile the block of down codes is that of the point before. -/
theorem iblk0_6_pred (c : Dev nD) (t : Fin cfg0.N) (h : ¬t.val % 128 = 0) :
    iblk0 V c 6 ⟨t.val - 1, Nat.lt_of_le_of_lt (Nat.sub_le _ _) t.isLt⟩ = iblk0 V c 6 t := by
  have hf : (cfg0.win 6).fetch t = false := Bool.eq_false_iff.mpr fun hf => h ((fetch0_6 t).mp hf)
  have d : (cfg0.win 6).block.Idx → Elt F (cfg0.win 6).elt := iblk0 V c 6 t
  have e := (dat0 V c).before_unfetched_in 6 rfl t hf (fun _ => rfl) d
  rw [before0_6] at e
  rw [e]
  exact (after0_6 V c _).symm
/-- Away from the first token tile the block of down scales is that of the point before. -/
theorem iblk0_7_pred (c : Dev nD) (t : Fin cfg0.N) (h : ¬t.val % 128 = 0) :
    iblk0 V c 7 ⟨t.val - 1, Nat.lt_of_le_of_lt (Nat.sub_le _ _) t.isLt⟩ = iblk0 V c 7 t := by
  have hf : (cfg0.win 7).fetch t = false := Bool.eq_false_iff.mpr fun hf => h ((fetch0_7 t).mp hf)
  have d : (cfg0.win 7).block.Idx → Elt F (cfg0.win 7).elt := iblk0 V c 7 t
  have e := (dat0 V c).before_unfetched_in 7 rfl t hf (fun _ => rfl) d
  rw [before0_7] at e
  rw [e]
  exact (after0_7 V c _).symm

/-- Away from the first token tile the dequantized gate and up weights are those of the point before. -/
theorem wguAt_pred (c : Dev nD) (t : Fin cfg0.N) (h : ¬t.val % 128 = 0) : wguAt V c ⟨t.val - 1, Nat.lt_of_le_of_lt (Nat.sub_le _ _) t.isLt⟩ = wguAt V c t := by
  unfold wguAt; rw [iblk0_4_pred V c t h, iblk0_5_pred V c t h]
/-- Away from the first token tile the dequantized down weights are those of the point before. -/
theorem wdbAt_pred (c : Dev nD) (t : Fin cfg0.N) (h : ¬t.val % 128 = 0) : wdbAt V c ⟨t.val - 1, Nat.lt_of_le_of_lt (Nat.sub_le _ _) t.isLt⟩ = wdbAt V c t := by
  unfold wdbAt; rw [iblk0_6_pred V c t h, iblk0_7_pred V c t h]

/-- Within a column block the weights' buffer holds the weights dequantized at its first tile. -/
theorem before0_9_B (c : Dev nD) (t : Fin cfg0.N) (h : ¬t.val % 128 = 0) (d) : (dat0 V c).before 9 t d = wguAt V c t := by
  rw [Dat.before_out_traj _ 9 rfl (fun _ _ => rfl) (fun t ht hi _ => ?_) t.val t rfl d,
    if_neg (by rw [fresh0_9, decide_eq_true_iff]; exact h), after0_9, wguAt_pred V c t h]
  have hi' : cfg0.idle 9 (grid0.coords t) = true := hi
  rw [idle0_9] at hi'
  rw [after0_9, after0_9, wguAt_pred V c t (by simpa using hi')]
/-- There the running sums are the point before's. -/
theorem before0_10_B (c : Dev nD) (t : Fin cfg0.N) (h : ¬t.val % 128 = 0) (d) :
    (dat0 V c).before 10 t d = dwguAt V c (t.val - 1) (Nat.lt_of_le_of_lt (Nat.sub_le _ _) t.isLt) := by
  have hN : t.val < 2432 := lt_of_lt_of_eq t.isLt (show cfg0.N = 2432 from N_0)
  rw [Dat.before_out_kept _ 10 rfl t (by omega) (Bool.eq_false_iff.mpr fun hf => by have := (flush0_10 _).mp hf; dsimp only at this; omega)
    (fun _ => rfl) (fun _ _ => rfl), after0_10]
/-- Away from the first token tile window 11 still holds the down weight sum of the point before. -/
theorem before0_11_B (c : Dev nD) (t : Fin cfg0.N) (h : ¬t.val % 128 = 0) (d) :
    (dat0 V c).before 11 t d = dwdAt V c (t.val - 1) (Nat.lt_of_le_of_lt (Nat.sub_le _ _) t.isLt) := by
  have hN : t.val < 2432 := lt_of_lt_of_eq t.isLt (show cfg0.N = 2432 from N_0)
  rw [Dat.before_out_kept _ 11 rfl t (by omega) (Bool.eq_false_iff.mpr fun hf => by have := (flush0_11 _).mp hf; dsimp only at this; omega)
    (fun _ => rfl) (fun _ _ => rfl), after0_11]

/-! ## The body's obligation -/

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))
/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ (dat0 V c).leavesExact 9 t
    ∗ owns (c : Thread nD τ) (st0_10 t) fullShare ((dat0 V c).after 10 t)
    ∗ owns (c : Thread nD τ) (st0_11 t) fullShare ((dat0 V c).after 11 t))

/-- At the first tile of a column block the body leaves the weights in their buffer. -/
theorem leaves9_A (c : Dev nD) (t : Fin cfg0.N) (h : t.val % 128 = 0) :
    (dat0 V c).leavesExact 9 t = owns (c : Thread nD τ) (st0_9 t) fullShare (wguAt V c t) := by
  have hi : cfg0.idle 9 (grid0.coords t) = false := by rw [idle0_9]; simpa using h
  unfold Dat.leavesExact; rw [hi, after0_9]
/-- Elsewhere it finds them there and leaves them, whether or not the buffer is written back. -/
theorem leaves9_B (c : Dev nD) (t : Fin cfg0.N) (h : ¬t.val % 128 = 0) :
    owns (c : Thread nD τ) (st0_9 t) fullShare (wguAt V c t) ⊢ (dat0 V c).leavesExact 9 t := by
  have hi : cfg0.idle 9 (grid0.coords t) = true := by rw [idle0_9]; simpa using h
  unfold Dat.leavesExact
  cases hf : (cfg0.win 9).flush t
  · rw [hi]
    dsimp only
    iintro H
    iexists (wguAt V c t)
    rw [before0_9_B V c t h]
    iexact H
  · rw [hi]
    dsimp only
    rw [after0_9]

set_option maxHeartbeats 4000000 in
/-- The body at any point, by its two cases. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_pos V c _ _ (Nat.succ_ne_zero _)]
  rw [after0_0, after0_1, after0_2, after0_3, after0_4, after0_5, after0_6, after0_7, after0_8, after0_10, after0_11]
  rw [PhiS_castSucc V c t]
  by_cases h0 : t.val % 128 = 0
  · rw [leaves9_A V c t h0, dwguAt_A V c t h0, dwdAt_A V c t h0]
    by_cases hz : t.val = 0
    · rw [PhiS_zero V c _ _ hz, PhiA0_eq]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_A c (grid0.coords t) _ _ _ _ _ _ _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) (iblk0 V c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, H8, H9, H10, H11, HS0, HS1, HS2⟩
      isplitl [HS0 HS1 HS2 HR Hg]
      · isplitl [HS0 HS1 HS2 HR]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_A c (grid0.coords t) _ _ _ _ _ _ _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) (iblk0 V c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexists _; iexact HS2
      iintro ⟨H0, H1, H2, H3, H4, H5, H6, H7, H8, H9, H10, H11, HS0, HS1, HS2⟩
      isplitl [HS0 HS1 HS2 HR Hg]
      · isplitl [HS0 HS1 HS2 HR]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · have hz : t.val ≠ 0 := fun h => h0 (by rw [h])
    rw [PhiS_pos V c _ _ hz, dwguAt_B V c t h0, dwdAt_B V c t h0, wdbAt_pred V c t h0]
    simp only [before0_9_B V c t h0, before0_10_B V c t h0, before0_11_B V c t h0]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_B c (grid0.coords t) _ _ _ _ _ _ _ _ _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 HR Hg]
    · isplitl [HS0 HS1 HS2 HR]
      · isplitl [HS0]; · iexact HS0
        isplitl [HS1]; · iexact HS1
        isplitl [HS2]; · iexact HS2
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves9_B V c t h0); iexact H9
    isplitl [H10]; · iexact H10
    iexact H11

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The pipeline's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The region's scoped rest starts the invariant. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the scoped rest back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 2432 := N_0; omega), PhiA0_eq]
  iintro ⟨⟨HS0, HS1, HS2, HR⟩, Hg⟩
  isplitl [HS0 HS1 HS2 HR]
  · isplitl [HS0]
    · iexact HS0
    isplitl [HS1]
    · iexact HS1
    isplitl [HS2]; · iexists _; iexact HS2
    iexact HR
  iexact Hg

end Cert.Kernel.Hand

end
-- ==== Proof.Kernel.Region1.lean ====
/- The second kernel on the pipeline: one grid point multiplies a tile of 512 tokens' gradients with a block of 512 weight rows. -/
module

public import proofs.«01_k».proof.Proof.Kernel.Spec
public import proofs.«01_k».proof.Proof.Gen.Kernel.Points
public import Idealize.ShloMosaic.Lib.Pipeline.FrameBody

@[expose] public section

-- the structural walk over rectangles of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of pre-activation gradients, or of weights, as a rectangle. -/
abbrev r1_0 : Rect S512x9728 := Rect.unit (s := S512x9728) ![0, 0] S512x9728.size inb_S512x9728_S512x9728_0_0
/-- The whole output block as a rectangle. -/
abbrev r1_1 : Rect S512x512 := Rect.unit (s := S512x512) ![0, 0] S512x512.size inb_S512x512_S512x512_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S512x9728 .bf16) (x1 : Vec F S512x9728 .bf16) : Vec F S512x512 .bf16 :=
  View.canon [⟨r1_1, k1_pay1 (View.ld x0 r1_0) (View.ld x1 r1_0)⟩]

/-- Its stores tile the buffer (checked by evaluation), so they cover it. -/
theorem cover1_2 (p0 : Vec F S512x512 .bf16) (y : S512x512.Idx) :
    ∃ pc ∈ ([⟨r1_1, p0⟩] : List (View.Piece (Elt F) S512x512 .bf16)), y ∈ pc.1.set :=
  View.cover_of_tiled [⟨r1_1, p0⟩] S512x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S512x9728 .bf16) (harg2 : arg2.IsWhole) (arg3 : Memref sig .tc .vmem S512x9728 .bf16) (harg3 : arg3.IsWhole) (arg4 : Memref sig .tc .vmem S512x512 .bf16) (harg4 : arg4.IsWhole)
    (x0 : Vec F S512x9728 .bf16) (x1 : Vec F S512x9728 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_dx i arg2 harg2 arg3 harg3 arg4 harg4) K := by
  simp only [cc1_dx_eq_skeleton]; unfold cc1_dx_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- The body leaves its weights block as it was. -/
theorem after1_1 (c : Dev nD) (t : Fin cfg1.N) : (dat1 V c).after 1 t = iblk1 V c 1 t := by dsimp only [dat1]
/-- The body leaves the product of its two blocks in the output window. -/
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Before the body the weights window holds its block. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Hand

end
-- ==== Proof.Kernel.Run.lean ====
/- The program as a run of its segments: host operations, the two kernels, host operations; what every buffer holds at each boundary, and the frame. -/
module

public import proofs.«01_k».proof.Proof.Kernel.Region0
public import proofs.«01_k».proof.Proof.Kernel.Region1
public import Idealize.ShloMosaic.Lib.Pipeline.RegionsLoop
public import Idealize.ShloMosaic.Lib.Pipeline.FrameSuffix

@[expose] public section

-- the structural walk over rectangles of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14]
/-- The host operations before the first kernel write the arrays listed. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v17, main_v18, main_v19, main_v20]
/-- The host operations after the second kernel write the arrays listed. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At the start every argument is as launched. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Before the first kernel every argument is as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After the first kernel each of its windows' arrays holds what the run of its points left. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first kernel leaves every array that is not one of its windows' as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- After the first kernel every argument is as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The contents after the first kernel agree with those before it off its windows. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
/-- After the second kernel each of its windows' arrays holds what the run of its points left. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The second kernel leaves every array that is not one of its windows' as it was. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- After the second kernel every argument is as launched. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The contents after the second kernel agree with those before it off its windows. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At the end every argument is as launched. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

/-- At the end argument 0 is as launched. -/
theorem W4_main_arg0 (c : Dev nD) : W4 m ρ c (Proc.devRef .tc main_arg0) = m ((c : Thread nD τ).loc main_arg0) :=
  W4_args m ρ c main_arg0 (by decide)
/-- At the end argument 1 is as launched. -/
theorem W4_main_arg1 (c : Dev nD) : W4 m ρ c (Proc.devRef .tc main_arg1) = m ((c : Thread nD τ).loc main_arg1) :=
  W4_args m ρ c main_arg1 (by decide)
/-- At the end argument 2 is as launched. -/
theorem W4_main_arg2 (c : Dev nD) : W4 m ρ c (Proc.devRef .tc main_arg2) = m ((c : Thread nD τ).loc main_arg2) :=
  W4_args m ρ c main_arg2 (by decide)
/-- At the end argument 3 is as launched. -/
theorem W4_main_arg3 (c : Dev nD) : W4 m ρ c (Proc.devRef .tc main_arg3) = m ((c : Thread nD τ).loc main_arg3) :=
  W4_args m ρ c main_arg3 (by decide)
/-- At the end argument 4 is as launched. -/
theorem W4_main_arg4 (c : Dev nD) : W4 m ρ c (Proc.devRef .tc main_arg4) = m ((c : Thread nD τ).loc main_arg4) :=
  W4_args m ρ c main_arg4 (by decide)
/-- At the end argument 5 is as launched. -/
theorem W4_main_arg5 (c : Dev nD) : W4 m ρ c (Proc.devRef .tc main_arg5) = m ((c : Thread nD τ).loc main_arg5) :=
  W4_args m ρ c main_arg5 (by decide)
/-- At the end argument 6 is as launched. -/
theorem W4_main_arg6 (c : Dev nD) : W4 m ρ c (Proc.devRef .tc main_arg6) = m ((c : Thread nD τ).loc main_arg6) :=
  W4_args m ρ c main_arg6 (by decide)
/-- At the end argument 7 is as launched. -/
theorem W4_main_arg7 (c : Dev nD) : W4 m ρ c (Proc.devRef .tc main_arg7) = m ((c : Thread nD τ).loc main_arg7) :=
  W4_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No loop needs a variant. -/
abbrev 𝒱₀ : Variants := Variants.none
/-- No core owes another anything: no level is assigned. -/
abbrev L : GSem nD τ sig → Finset Unit := fun _ => ∅
/-- No wait needs a level. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole program: from any memory with zero counters every fair execution ends, with every unscoped buffer at the last
    boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The argument arrays end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c),
       (h.1 c _ (mem_uc main_arg7 (by decide))).trans (W4_main_arg7 m ρ c)⟩, h.2⟩) (run m ρ)

end Cert.Kernel.Hand

end
-- ==== Proof.KernelIdeal.Spec.lean ====
/- What one grid point of the first kernel computes, as plain functions of the blocks it reads: the four
   dequantized blocks (each element times the scale of its group of 128), in closed form, and the lemma per kind of
   block that a stored tile of 128 columns or rows is the corresponding part of the closed form. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.ValueIdxCore
public import Idealize.ShloMosaic.Lib.ValueLayout

@[expose] public section

-- the structural walk over rectangles of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

local notation "𝕄" => MT nD τ sig Unit (Elt F) ℕ (UR sig nD τ) ℕ

/-- Activations dequantized: element `(r, j)` times the scale of row `r` and column group `j / 128`. -/
def deqCol {φ : FTy} (h : φ.bits < FTy.bf16.bits) (x : FVec F S512x3584 φ) (s : FVec F S512x28 .f32) : FVec F S512x3584 .bf16 :=
  fun i => FloatOps.mulf (FloatOps.extf .bf16 h (x i))
    (FloatOps.truncf .bf16 bitsLt_bf16_f32 (s (ix2 (i 0) ⟨(i 1).val / 128, by have h : (i 1).val < 3584 := (i 1).isLt; show _ < 28; omega⟩)))

/-- The gate and up weights dequantized: element `(j, n)` times the scale of row group `j / 128` and column `n`. -/
def deqRow (x : FVec F S3584x512 .fp8e4m3) (s : FVec F S28x512 .f32) : FVec F S3584x512 .bf16 :=
  fun i => FloatOps.mulf (FloatOps.extf .bf16 bitsLt_fp8e4m3_bf16 (x i))
    (FloatOps.truncf .bf16 bitsLt_bf16_f32 (s (ix2 ⟨(i 0).val / 128, by have h : (i 0).val < 3584 := (i 0).isLt; show _ < 28; omega⟩ (i 1))))

/-- The down weights dequantized: element `(f, j)` times the scale of row group `f / 128` and column `j`. -/
def deqDown (x : FVec F S256x3584 .fp8e4m3) (s : FVec F S1x2x3584 .f32) : FVec F S256x3584 .bf16 :=
  fun i => FloatOps.mulf (FloatOps.extf .bf16 bitsLt_fp8e4m3_bf16 (x i))
    (FloatOps.truncf .bf16 bitsLt_bf16_f32 (s (ix3 0 ⟨(i 0).val / 128, by have h : (i 0).val < 256 := (i 0).isLt; show _ < 2; omega⟩ (i 1))))

/-- A tile of 128 columns of the activations, dequantized by its column of scales, is that tile of `deqCol`. -/
theorem deqCol_piece {φ : FTy} (h : φ.bits < FTy.bf16.bits) (x : FVec F S512x3584 φ) (s : FVec F S512x28 .f32)
    {off off' : Fin 2 → ℕ} (o k : ℕ) (ho : o = 128 * k) (hoff : off = ![0, o]) (hoff' : off' = ![0, k])
    (inb : ∀ a, off a + S512x128.size a ≤ S512x3584.size a) (inb' : ∀ a, off' a + S512x1.size a ≤ S512x28.size a)
    (v6 : FVec F S512x128 φ) (v3 : FVec F S512x1 .f32)
    (hv6 : v6 = fun j => x ((Rect.unit (s := S512x3584) off S512x128.size inb).emb j))
    (hv3 : v3 = fun j => s ((Rect.unit (s := S512x28) off' S512x1.size inb').emb j))
    {hc : S512x1.ShapeCasts S512x1} {hc' : S512x128.ShapeCasts S512x128} {hb : S512x1.Broadcasts S512x128} (j : S512x128.Idx) :
    shapeCast S512x128 (mulf (extf .bf16 (shapeCast S512x128 v6 hc') h)
      (broadcastTo S512x128 (truncf .bf16 (shapeCast S512x1 v3 hc) bitsLt_bf16_f32) hb)) hc' j
      = deqCol h x s ((Rect.unit (s := S512x3584) off S512x128.size inb).emb j) := by
  subst hv6 hv3 hoff hoff' ho
  simp only [shapeCast_self]
  have hj : (j 1).val < 128 := (j 1).isLt
  refine congrArg (FloatOps.mulf _) (congrArg (FloatOps.truncf .bf16 bitsLt_bf16_f32) (congrArg s (funext fun a => Fin.ext ?_)))
  match a with
  | ⟨0, _⟩ => rfl
  | ⟨1, _⟩ =>
    show k + 1 * 0 = (128 * k + 1 * (j 1).val) / 128
    omega

/-- A tile of 128 rows of the gate and up weights, dequantized by its row of scales, is that tile of `deqRow`. -/
theorem deqRow_piece (x : FVec F S3584x512 .fp8e4m3) (s : FVec F S28x512 .f32)
    {off : Fin 2 → ℕ} (o k : ℕ) (ho : o = 128 * k) (hoff : off = ![o, 0])
    (inb : ∀ a, off a + S128x512.size a ≤ S3584x512.size a)
    (v6 : FVec F S128x512 .fp8e4m3) (v3 : FVec F S28x512 .f32)
    (hv6 : v6 = fun j => x ((Rect.unit (s := S3584x512) off S128x512.size inb).emb j)) (hv3 : v3 = s)
    {hs : S28x512.Slices ![k, 0] S1x512}
    {hc : S28x512.ShapeCasts S28x512} {hc' : S128x512.ShapeCasts S128x512} {hb : S1x512.Broadcasts S128x512} (j : S128x512.Idx) :
    mulf (extf .bf16 (shapeCast S128x512 v6 hc') bitsLt_fp8e4m3_bf16)
      (broadcastTo S128x512 (truncf .bf16 (extractStridedSlice S1x512 ![k, 0] (shapeCast S28x512 v3 hc) hs) bitsLt_bf16_f32) hb) j
      = deqRow x s ((Rect.unit (s := S3584x512) off S128x512.size inb).emb j) := by
  subst hv6 hv3 hoff ho
  simp only [shapeCast_self]
  have hj : (j 0).val < 128 := (j 0).isLt
  refine congrArg (FloatOps.mulf _) (congrArg (FloatOps.truncf .bf16 bitsLt_bf16_f32) (congrArg v3 (funext fun a => Fin.ext ?_)))
  match a with
  | ⟨0, _⟩ =>
    show k + 0 = (128 * k + 1 * (j 0).val) / 128
    omega
  | ⟨1, _⟩ =>
    show 0 + (j 1).val = 0 + 1 * (j 1).val
    omega

/-- A tile of 128 rows of the down weights, dequantized by its row of scales, is that tile of `deqDown`. -/
theorem deqDown_piece (x : FVec F S256x3584 .fp8e4m3) (s : FVec F S1x2x3584 .f32)
    {off : Fin 2 → ℕ} (o k : ℕ) (hk : k < 2) (ho : o = 128 * k) (hoff : off = ![o, 0])
    (inb : ∀ a, off a + S128x3584.size a ≤ S256x3584.size a)
    (v6 : FVec F S128x3584 .fp8e4m3) (v3 : FVec F S1x2x3584 .f32)
    (hv6 : v6 = fun j => x ((Rect.unit (s := S256x3584) off S128x3584.size inb).emb j)) (hv3 : v3 = s)
    {hs : S2x3584.Slices ![k, 0] S1x3584}
    {hc : S1x2x3584.ShapeCasts S2x3584} {hc' : S128x3584.ShapeCasts S128x3584} {hb : S1x3584.Broadcasts S128x3584} (j : S128x3584.Idx) :
    shapeCast S128x3584 (mulf (extf .bf16 v6 bitsLt_fp8e4m3_bf16)
      (broadcastTo S128x3584 (truncf .bf16 (extractStridedSlice S1x3584 ![k, 0] (shapeCast S2x3584 v3 hc) hs) bitsLt_bf16_f32) hb)) hc' j
      = deqDown x s ((Rect.unit (s := S256x3584) off S128x3584.size inb).emb j) := by
  subst hv6 hv3 hoff ho
  rw [shapeCast_self]
  have hj : (j 0).val < 128 := (j 0).isLt
  refine congrArg (FloatOps.mulf _) (congrArg (FloatOps.truncf .bf16 bitsLt_bf16_f32) ?_)
  have e := shapeCast_1ab_ab_apply (a := 2) (b := 3584) v3 hc ⟨k, hk⟩ (j 1)
  refine (congrArg (shapeCast S2x3584 v3 hc) (funext fun a => Fin.ext ?_)).trans (e.trans (congrArg v3 (funext fun a => Fin.ext ?_)))
  · match a with
    | ⟨0, _⟩ => rfl
    | ⟨1, _⟩ => show 0 + (j 1).val = (j 1).val; omega
  match a with
  | ⟨0, _⟩ => rfl
  | ⟨1, _⟩ =>
    show k = (128 * k + 1 * (j 0).val) / 128
    omega
  | ⟨2, _⟩ =>
    show (j 1).val = 0 + 1 * (j 1).val
    omega

/-- `deqCol_piece` with both operands as loads from whole buffers holding the activations block and its scales. -/
theorem deqX_load {a : Memref sig .tc .vmem S512x3584 .fp8e4m3} (ha : a.IsWhole) {b : Memref sig .tc .vmem S512x28 .f32} (hb : b.IsWhole)
    (x : Vec F S512x3584 .fp8e4m3) (s : Vec F S512x28 .f32) (o k : ℕ) (ho : o = 128 * k)
    (inb : ∀ d, (![0, o] : Fin 2 → ℕ) d + S512x128.size d ≤ S512x3584.size d) (inb' : ∀ d, (![0, k] : Fin 2 → ℕ) d + S512x1.size d ≤ S512x28.size d)
    {hc : S512x1.ShapeCasts S512x1} {hc' : S512x128.ShapeCasts S512x128} {hbr : S512x1.Broadcasts S512x128} (j : S512x128.Idx) :
    shapeCast S512x128 (mulf (extf .bf16 (shapeCast S512x128
        (View.readAt (Elt F) a.view (Rect.unit (s := S512x3584) ![0, o] S512x128.size inb).toLoadRect (ha.unread x) : FVec F S512x128 .fp8e4m3) hc') bitsLt_fp8e4m3_bf16)
      (broadcastTo S512x128 (truncf .bf16 (shapeCast S512x1
        (View.readAt (Elt F) b.view (Rect.unit (s := S512x28) ![0, k] S512x1.size inb').toLoadRect (hb.unread s) : FVec F S512x1 .f32) hc) bitsLt_bf16_f32) hbr)) hc' j
      = deqCol bitsLt_fp8e4m3_bf16 x s ((Rect.unit (s := S512x3584) ![0, o] S512x128.size inb).emb j) :=
  deqCol_piece _ x s o k ho rfl rfl inb inb' _ _ (congrArg (View.ld · _) (ha.read_unread x)) (congrArg (View.ld · _) (hb.read_unread s)) j

/-- `deqCol_piece` with both operands as loads from whole buffers holding the gradient block and its scales. -/
theorem deqDy_load {a : Memref sig .tc .vmem S512x3584 .fp8e5m2} (ha : a.IsWhole) {b : Memref sig .tc .vmem S512x28 .f32} (hb : b.IsWhole)
    (x : Vec F S512x3584 .fp8e5m2) (s : Vec F S512x28 .f32) (o k : ℕ) (ho : o = 128 * k)
    (inb : ∀ d, (![0, o] : Fin 2 → ℕ) d + S512x128.size d ≤ S512x3584.size d) (inb' : ∀ d, (![0, k] : Fin 2 → ℕ) d + S512x1.size d ≤ S512x28.size d)
    {hc : S512x1.ShapeCasts S512x1} {hc' : S512x128.ShapeCasts S512x128} {hbr : S512x1.Broadcasts S512x128} (j : S512x128.Idx) :
    shapeCast S512x128 (mulf (extf .bf16 (shapeCast S512x128
        (View.readAt (Elt F) a.view (Rect.unit (s := S512x3584) ![0, o] S512x128.size inb).toLoadRect (ha.unread x) : FVec F S512x128 .fp8e5m2) hc') bitsLt_fp8e5m2_bf16)
      (broadcastTo S512x128 (truncf .bf16 (shapeCast S512x1
        (View.readAt (Elt F) b.view (Rect.unit (s := S512x28) ![0, k] S512x1.size inb').toLoadRect (hb.unread s) : FVec F S512x1 .f32) hc) bitsLt_bf16_f32) hbr)) hc' j
      = deqCol bitsLt_fp8e5m2_bf16 x s ((Rect.unit (s := S512x3584) ![0, o] S512x128.size inb).emb j) :=
  deqCol_piece _ x s o k ho rfl rfl inb inb' _ _ (congrArg (View.ld · _) (ha.read_unread x)) (congrArg (View.ld · _) (hb.read_unread s)) j

/-- `deqRow_piece` with both operands as loads from whole buffers holding the weight block and its scales. -/
theorem deqRow_load {a : Memref sig .tc .vmem S3584x512 .fp8e4m3} (ha : a.IsWhole) {b : Memref sig .tc .vmem S28x512 .f32} (hb : b.IsWhole)
    (x : Vec F S3584x512 .fp8e4m3) (s : Vec F S28x512 .f32) (o k : ℕ) (ho : o = 128 * k)
    (inb : ∀ d, (![o, 0] : Fin 2 → ℕ) d + S128x512.size d ≤ S3584x512.size d)
    {inb' : ∀ d, (![0, 0] : Fin 2 → ℕ) d + S28x512.size d ≤ S28x512.size d} {hs : S28x512.Slices ![k, 0] S1x512}
    {hc : S28x512.ShapeCasts S28x512} {hc' : S128x512.ShapeCasts S128x512} {hbr : S1x512.Broadcasts S128x512} (j : S128x512.Idx) :
    mulf (extf .bf16 (shapeCast S128x512
        (View.readAt (Elt F) a.view (Rect.unit (s := S3584x512) ![o, 0] S128x512.size inb).toLoadRect (ha.unread x) : FVec F S128x512 .fp8e4m3) hc') bitsLt_fp8e4m3_bf16)
      (broadcastTo S128x512 (truncf .bf16 (extractStridedSlice S1x512 ![k, 0] (shapeCast S28x512
        (View.readAt (Elt F) b.view (Rect.unit (s := S28x512) ![0, 0] S28x512.size inb').toLoadRect (hb.unread s) : FVec F S28x512 .f32) hc) hs) bitsLt_bf16_f32) hbr) j
      = deqRow x s ((Rect.unit (s := S3584x512) ![o, 0] S128x512.size inb).emb j) :=
  deqRow_piece x s o k ho rfl inb _ _ (congrArg (View.ld · _) (ha.read_unread x))
    ((congrArg (View.ld · _) (hb.read_unread s)).trans (View.ld_unit_zero (by funext a; fin_cases a <;> rfl) _ _)) j

/-- `deqDown_piece` with both operands as loads from whole buffers holding the weight block and its scales. -/
theorem deqDown_load {a : Memref sig .tc .vmem S256x3584 .fp8e4m3} (ha : a.IsWhole) {b : Memref sig .tc .vmem S1x2x3584 .f32} (hb : b.IsWhole)
    (x : Vec F S256x3584 .fp8e4m3) (s : Vec F S1x2x3584 .f32) (o k : ℕ) (hk : k < 2) (ho : o = 128 * k)
    (inb : ∀ d, (![o, 0] : Fin 2 → ℕ) d + S128x3584.size d ≤ S256x3584.size d)
    {inb' : ∀ d, (![0, 0, 0] : Fin 3 → ℕ) d + S1x2x3584.size d ≤ S1x2x3584.size d} {hs : S2x3584.Slices ![k, 0] S1x3584}
    {hc : S1x2x3584.ShapeCasts S2x3584} {hc' : S128x3584.ShapeCasts S128x3584} {hbr : S1x3584.Broadcasts S128x3584} (j : S128x3584.Idx) :
    shapeCast S128x3584 (mulf (extf .bf16
        (View.readAt (Elt F) a.view (Rect.unit (s := S256x3584) ![o, 0] S128x3584.size inb).toLoadRect (ha.unread x) : FVec F S128x3584 .fp8e4m3) bitsLt_fp8e4m3_bf16)
      (broadcastTo S128x3584 (truncf .bf16 (extractStridedSlice S1x3584 ![k, 0] (shapeCast S2x3584
        (View.readAt (Elt F) b.view (Rect.unit (s := S1x2x3584) ![0, 0, 0] S1x2x3584.size inb').toLoadRect (hb.unread s) : FVec F S1x2x3584 .f32) hc) hs) bitsLt_bf16_f32) hbr)) hc' j
      = deqDown x s ((Rect.unit (s := S256x3584) ![o, 0] S128x3584.size inb).emb j) :=
  deqDown_piece x s o k hk ho rfl inb _ _ (congrArg (View.ld · _) (ha.read_unread x))
    ((congrArg (View.ld · _) (hb.read_unread s)).trans (View.ld_unit_zero (by funext a; fin_cases a <;> rfl) _ _)) j

/-! ## Whole buffers read after stores that tile them -/

section Pieces

variable {S : Shape} {e : EltTy}

/-- A whole load after tiling stores, each the matching part of one function, reads that function. -/
theorem readCov_of_pieces {sp : Space} (v : View sig .tc sp S e) (L : List (View.Piece (Elt F) S e)) (G : S.Idx → Elt F e)
    {off : Fin S.rank → ℕ} (h0 : off = fun _ => 0) (inb : ∀ a, off a + S.size a ≤ S.size a)
    (hcov : ∀ y, ∃ p ∈ L, y ∈ p.1.set) (hp : ∀ p ∈ L, ∀ x : p.1.shape.Idx, p.2 x = G (p.1.emb x)) :
    v.readCov L (Rect.unit off S.size inb).toLoadRect = G := by
  refine (View.readCov_eq_canon_ld _ _ _ hcov).trans ((View.ld_unit_zero h0 inb _).trans ?_)
  funext y
  exact View.canon_apply_of_pieces G L hp y (hcov y)

/-- The contents after tiling stores, each the matching part of one function, are that function. -/
theorem read_of_pieces {sp : Space} (v : View sig .tc sp S e) (f : v.ty.Contents (Elt F)) (L : List (View.Piece (Elt F) S e)) (G : S.Idx → Elt F e)
    (hcov : ∀ y, ∃ p ∈ L, y ∈ p.1.set) (hp : ∀ p ∈ L, ∀ x : p.1.shape.Idx, p.2 x = G (p.1.emb x)) :
    v.read (Elt F) (v.writes (Elt F) f L) = G := by
  rw [View.read_writes_eq_canon _ _ _ hcov]
  funext y
  exact View.canon_apply_of_pieces G L hp y (hcov y)

/-- The contents after a store of the whole buffer, last, are what it stored. -/
theorem read_of_whole_store {sp : Space} (v : View sig .tc sp S e) (f : v.ty.Contents (Elt F)) {off : Fin S.rank → ℕ} (h0 : off = fun _ => 0)
    (inb : ∀ a, off a + S.size a ≤ S.size a) (w G : S.Idx → Elt F e) (L : List (View.Piece (Elt F) S e)) (hw : w = G) :
    v.read (Elt F) (v.writes (Elt F) f ((⟨Rect.unit off S.size inb, w⟩ : View.Piece (Elt F) S e) :: L)) = G := by
  rw [View.read_writes_eq_canon _ _ _ (fun y => ⟨_, List.mem_cons_self, View.mem_set_unit_zero h0 inb y⟩), View.canon_cons_unit_zero h0 inb, hw]

/-- A whole load of a buffer holding `X` reads `X`. -/
theorem readAt_whole {sp : Space} {a : Memref sig .tc sp S e} (ha : a.IsWhole) (X : S.Idx → Elt F e) {off : Fin S.rank → ℕ} (h0 : off = fun _ => 0)
    (inb : ∀ a, off a + S.size a ≤ S.size a) : View.readAt (Elt F) a.view (Rect.unit off S.size inb).toLoadRect (ha.unread X) = X :=
  (congrArg (View.ld · _) (ha.read_unread X)).trans (View.ld_unit_zero h0 inb X)

end Pieces

/-- The zero offsets of a rank-two access, as the constant function. -/
theorem off2 : (![0, 0] : Fin 2 → ℕ) = fun _ => 0 := by funext a; fin_cases a <;> rfl

/-! ## One grid point, from the four dequantized blocks and the two running sums -/

/-- The gate and up gradients of the point's 512 tokens, side by side. -/
def ptDgu (xb : Vec F S512x3584 .bf16) (wgu : Vec F S3584x512 .bf16) (dyb : Vec F S512x3584 .bf16) (wdb : Vec F S256x3584 .bf16) : Vec F S512x512 .bf16 :=
  k0_pay122 xb wgu dyb wdb
/-- The running gate and up weight gradient, with the point's tokens added. -/
def ptDwgu (xb : Vec F S512x3584 .bf16) (wgu : Vec F S3584x512 .bf16) (dyb : Vec F S512x3584 .bf16) (wdb : Vec F S256x3584 .bf16) (acc : Vec F S3584x512 .f32) : Vec F S3584x512 .f32 :=
  k0_pay123 xb wgu dyb wdb acc xb
/-- The running down weight gradient, with the point's tokens added. -/
def ptDwd (xb : Vec F S512x3584 .bf16) (wgu : Vec F S3584x512 .bf16) (dyb : Vec F S512x3584 .bf16) (acc : Vec F S256x3584 .f32) : Vec F S256x3584 .f32 :=
  k0_pay1 (k0_pay121 xb wgu) (k0_pay124 acc) dyb (constant S256x3584 .f32 0x00000000#32)

end Cert.KernelIdeal.Hand

end
-- ==== Proof.KernelIdeal.BodyB.lean ====
/- The first kernel's body at a point that is not the first of its block of columns: the weight blocks and the running sums are carried in. -/
module

public import proofs.«01_k».proof.Proof.KernelIdeal.Spec

@[expose] public section

-- the structural walk over rectangles of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The first kernel's body at a point that is not the first of its block of columns: the weight blocks and the running sums are carried in.
    From the eight input blocks it leaves the token gradients, the dequantized weights and the two sums of `Spec`. -/
theorem body_B (c : Dev nD) (i : grid0.Coords) (arg2 : Memref sig .tc .vmem S512x3584 .fp8e4m3) (harg2 : arg2.IsWhole) (arg3 : Memref sig .tc .vmem S512x28 .f32) (harg3 : arg3.IsWhole) (arg4 : Memref sig .tc .vmem S512x3584 .fp8e5m2) (harg4 : arg4.IsWhole) (arg5 : Memref sig .tc .vmem S512x28 .f32) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S256x3584 .fp8e4m3) (harg8 : arg8.IsWhole) (arg9 : Memref sig .tc .vmem S1x2x3584 .f32) (harg9 : arg9.IsWhole) (arg10 : Memref sig .tc .vmem S512x512 .bf16) (harg10 : arg10.IsWhole) (arg11 : Memref sig .tc .vmem S3584x512 .bf16) (harg11 : arg11.IsWhole) (arg12 : Memref sig .tc .vmem S3584x512 .f32) (harg12 : arg12.IsWhole) (arg13 : Memref sig .tc .vmem S256x3584 .f32) (harg13 : arg13.IsWhole) (arg14 : Memref sig .tc .vmem S512x3584 .bf16) (harg14 : arg14.IsWhole) (arg15 : Memref sig .tc .vmem S512x3584 .bf16) (harg15 : arg15.IsWhole) (arg16 : Memref sig .tc .vmem S256x3584 .bf16) (harg16 : arg16.IsWhole) (hc0 : ¬ k0_cond1 i = 1#1)
    (x0 : Vec F S512x3584 .fp8e4m3) (x1 : Vec F S512x28 .f32) (x2 : Vec F S512x3584 .fp8e5m2) (x3 : Vec F S512x28 .f32) (x4 : Vec F S3584x512 .fp8e4m3) (x5 : Vec F S28x512 .f32) (x6 : Vec F S256x3584 .fp8e4m3) (x7 : Vec F S1x2x3584 .f32) (xo9 : Vec F S3584x512 .bf16) (xo10 : Vec F S3584x512 .f32) (xo11 : Vec F S256x3584 .f32) (xs2 : Vec F S256x3584 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ owns (c : Thread nD τ) arg12 fullShare xo10 ∗ owns (c : Thread nD τ) arg13 fullShare xo11 ∗ (∃ d, owns (c : Thread nD τ) arg14 fullShare d) ∗ (∃ d, owns (c : Thread nD τ) arg15 fullShare d) ∗ owns (c : Thread nD τ) arg16 fullShare xs2
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (ptDgu (deqCol bitsLt_fp8e4m3_bf16 x0 x1) xo9 (deqCol bitsLt_fp8e5m2_bf16 x2 x3) xs2) ∗ owns (c : Thread nD τ) arg11 fullShare xo9 ∗ owns (c : Thread nD τ) arg12 fullShare (ptDwgu (deqCol bitsLt_fp8e4m3_bf16 x0 x1) xo9 (deqCol bitsLt_fp8e5m2_bf16 x2 x3) xs2 xo10) ∗ owns (c : Thread nD τ) arg13 fullShare (ptDwd (deqCol bitsLt_fp8e4m3_bf16 x0 x1) xo9 (deqCol bitsLt_fp8e5m2_bf16 x2 x3) xo11) ∗ (∃ d, owns (c : Thread nD τ) arg14 fullShare d) ∗ (∃ d, owns (c : Thread nD τ) arg15 fullShare d) ∗ owns (c : Thread nD τ) arg16 fullShare xs2) -∗ K ⟨⟩))
      ⊢ wp frame (wpE (defs₀ (F := F)) Variants.none c none) E (cc0_ff_and_dw i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ff_and_dw_eq_skeleton]; unfold cc0_ff_and_dw_skel
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%ds0, %fs0, -, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg11.eq_unread hf9; obtain rfl := harg12.eq_unread hf10; obtain rfl := harg13.eq_unread hf11; obtain rfl := harg16.eq_unread hfs2
  sl_exec (disch := sl_exact hc0)
  sl_step
  have hX : body_B.sl.v619 c arg2 harg2 arg3 harg3 arg14 x0 x1 = deqCol bitsLt_fp8e4m3_bf16 x0 x1 := by
    unfold body_B.sl.v619
    refine readCov_of_pieces _ _ _ off2 _ (View.cover_of_tiledL _ ![512, 128] (by sl_kernel_rfl)) ?_
    refine List.forall_mem_cons.mpr ⟨fun j => deqX_load harg2 harg3 x0 x1 3456 27 rfl inb_S512x3584_S512x128_0_3456 inb_S512x28_S512x1_0_27 j, ?_⟩
    refine List.forall_mem_cons.mpr ⟨fun j => deqX_load harg2 harg3 x0 x1 3328 26 rfl inb_S512x3584_S512x128_0_3328 inb_S512x28_S512x1_0_26 j, ?_⟩
    refine List.forall_mem_cons.mpr ⟨fun j => deqX_load harg2 harg3 x0 x1 3200 25 rfl inb_S512x3584_S512x128_0_3200 inb_S512x28_S512x1_0_25 j, ?_⟩
    refine List.forall_mem_cons.mpr ⟨fun j => deqX_load harg2 harg3 x0 x1 3072 24 rfl inb_S512x3584_S512x128_0_3072 inb_S512x28_S512x1_0_24 j, ?_⟩
    refine List.forall_mem_cons.mpr ⟨fun j => deqX_load harg2 harg3 x0 x1 2944 23 rfl inb_S512x3584_S512x128_0_2944 inb_S512x28_S512x1_0_23 j, ?_⟩
    refine List.forall_mem_cons.mpr ⟨fun j => deqX_load harg2 harg3 x0 x1 2816 22 rfl inb_S512x3584_S512x128_0_2816 inb_S512x28_S512x1_0_22 j, ?_⟩
    refine List.forall_mem_cons.mpr ⟨fun j => deqX_load harg2 harg3 x0 x1 2688 21 rfl inb_S512x3584_S512x128_0_2688 inb_S512x28_S512x1_0_21 j, ?_⟩
    refine List.forall_mem_cons.mpr ⟨fun j => deqX_load harg2 harg3 x0 x1 2560 20 rfl inb_S512x3584_S512x128_0_2560 inb_S512x28_S512x1_0_20 j, ?_⟩
    refine List.forall_mem_cons.mpr ⟨fun j => deqX_load harg2 harg3 x0 x1 2432 19 rfl inb_S512x3584_S512x128_0_2432 inb_S512x28_S512x1_0_19 j, ?_⟩
    refine List.forall_mem_cons.mpr ⟨fun j => deqX_load harg2 harg3 x0 x1 2304 18 rfl inb_S512x3584_S512x128_0_2304 inb_S512x28_S512x1_0_18 j, ?_⟩
    refine List.forall_mem_cons.mpr ⟨fun j => deqX_load harg2 harg3 x0 x1 2176 17 rfl inb_S512x3584_S512x128_0_2176 inb_S512x28_S512x1_0_17 j, ?_⟩
    refine List.forall_mem_cons.mpr ⟨fun j => deqX_load harg2 harg3 x0 x1 2048 16 rfl inb_S512x3584_S512x128_0_2048 inb_S512x28_S512x1_0_16 j, ?_⟩
    refine List.forall_mem_cons.mpr ⟨fun j => deqX_load harg2 harg3 x0 x1 1920 15 rfl inb_S512x3584_S512x128_0_1920 inb_S512x28_S512x1_0_15 j, ?_⟩
    refine List.forall_mem_cons.mpr ⟨fun j => deqX_load harg2 harg3 x0 x1 1792 14 rfl inb_S512x3584_S512x128_0_1792 inb_S512x28_S512x1_0_14 j, ?_⟩
    refine List.forall_mem_cons.mpr ⟨fun j => deqX_load harg2 harg3 x0 x1 1664 13 rfl inb_S512x3584_S512x128_0_1664 inb_S512x28_S512x1_0_13 j, ?_⟩
    refine List.forall_mem_cons.mpr ⟨fun j => deqX_load harg2 harg3 x0 x1 1536 12 rfl inb_S512x3584_S512x128_0_1536 inb_S512x28_S512x1_0_12 j, ?_⟩
    refine List.forall_mem_cons.mpr ⟨fun j => deqX_load harg2 harg3 x0 x1 1408 11 rfl inb_S512x3584_S512x128_0_1408 inb_S512x28_S512x1_0_11 j, ?_⟩
    refine List.forall_mem_cons.mpr ⟨fun j => deqX_load harg2 harg3 x0 x1 1280 10 rfl inb_S512x3584_S512x128_0_1280 inb_S512x28_S512x1_0_10 j, ?_⟩
    refine List.forall_mem_cons.mpr ⟨fun j => deqX_load harg2 harg3 x0 x1 1152 9 rfl inb_S512x3584_S512x128_0_1152 inb_S512x28_S512x1_0_9 j, ?_⟩
    refine List.forall_mem_cons.mpr ⟨fun j => deqX_load harg2 harg3 x0 x1 1024 8 rfl inb_S512x3584_S512x128_0_1024 inb_S512x28_S512x1_0_8 j, ?_⟩
    refine List.forall_mem_cons.mpr ⟨fun j => deqX_load harg2 harg3 x0 x1 896 7 rfl inb_S512x3584_S512x128_0_896 inb_S512x28_S512x1_0_7 j, ?_⟩
    refine List.forall_mem_cons.mpr ⟨fun j => deqX_load harg2 harg3 x0 x1 768 6 rfl inb_S512x3584_S512x128_0_768 inb_S512x28_S512x1_0_6 j, ?_⟩
    refine List.forall_mem_cons.mpr ⟨fun j => deqX_load harg2 harg3 x0 x1 640 5 rfl inb_S512x3584_S512x128_0_640 inb_S512x28_S512x1_0_5 j, ?_⟩
    refine List.forall_mem_cons.mpr ⟨fun j => deqX_load harg2 harg3 x0 x1 512 4 rfl inb_S512x3584_S512x128_0_512 inb_S512x28_S512x1_0_4 j, ?_⟩
    refine List.forall_mem_cons.mpr ⟨fun j => deqX_load harg2 harg3 x0 x1 384 3 rfl inb_S512x3584_S512x128_0_384 inb_S512x28_S512x1_0_3 j, ?_⟩
    refine List.forall_mem_cons.mpr ⟨fun j => deqX_load harg2 harg3 x0 x1 256 2 rfl inb_S512x3584_S512x128_0_256 inb_S512x28_S512x1_0_2 j, ?_⟩
    refine List.forall_mem_cons.mpr ⟨fun j => deqX_load harg2 harg3 x0 x1 128 1 rfl inb_S512x3584_S512x128_0_128 inb_S512x28_S512x1_0_1 j, ?_⟩
    refine List.forall_mem_cons.mpr ⟨fun j => deqX_load harg2 harg3 x0 x1 0 0 rfl inb_S512x3584_S512x128_0_0 inb_S512x28_S512x1_0_0 j, ?_⟩
    exact fun p hp => absurd hp List.not_mem_nil
  have hD : body_B.sl.v623 c arg4 harg4 arg5 harg5 arg15 x2 x3 = deqCol bitsLt_fp8e5m2_bf16 x2 x3 := by
    unfold body_B.sl.v623
    refine readCov_of_pieces _ _ _ off2 _ (View.cover_of_tiledL _ ![512, 128] (by sl_kernel_rfl)) ?_
    refine List.forall_mem_cons.mpr ⟨fun j => deqDy_load harg4 harg5 x2 x3 3456 27 rfl inb_S512x3584_S512x128_0_3456 inb_S512x28_S512x1_0_27 j, ?_⟩
    refine List.forall_mem_cons.mpr ⟨fun j => deqDy_load harg4 harg5 x2 x3 3328 26 rfl inb_S512x3584_S512x128_0_3328 inb_S512x28_S512x1_0_26 j, ?_⟩
    refine List.forall_mem_cons.mpr ⟨fun j => deqDy_load harg4 harg5 x2 x3 3200 25 rfl inb_S512x3584_S512x128_0_3200 inb_S512x28_S512x1_0_25 j, ?_⟩
    refine List.forall_mem_cons.mpr ⟨fun j => deqDy_load harg4 harg5 x2 x3 3072 24 rfl inb_S512x3584_S512x128_0_3072 inb_S512x28_S512x1_0_24 j, ?_⟩
    refine List.forall_mem_cons.mpr ⟨fun j => deqDy_load harg4 harg5 x2 x3 2944 23 rfl inb_S512x3584_S512x128_0_2944 inb_S512x28_S512x1_0_23 j, ?_⟩
    refine List.forall_mem_cons.mpr ⟨fun j => deqDy_load harg4 harg5 x2 x3 2816 22 rfl inb_S512x3584_S512x128_0_2816 inb_S512x28_S512x1_0_22 j, ?_⟩
    refine List.forall_mem_cons.mpr ⟨fun j => deqDy_load harg4 harg5 x2 x3 2688 21 rfl inb_S512x3584_S512x128_0_2688 inb_S512x28_S512x1_0_21 j, ?_⟩
    refine List.forall_mem_cons.mpr ⟨fun j => deqDy_load harg4 harg5 x2 x3 2560 20 rfl inb_S512x3584_S512x128_0_2560 inb_S512x28_S512x1_0_20 j, ?_⟩
    refine List.forall_mem_cons.mpr ⟨fun j => deqDy_load harg4 harg5 x2 x3 2432 19 rfl inb_S512x3584_S512x128_0_2432 inb_S512x28_S512x1_0_19 j, ?_⟩
    refine List.forall_mem_cons.mpr ⟨fun j => deqDy_load harg4 harg5 x2 x3 2304 18 rfl inb_S512x3584_S512x128_0_2304 inb_S512x28_S512x1_0_18 j, ?_⟩
    refine List.forall_mem_cons.mpr ⟨fun j => deqDy_load harg4 harg5 x2 x3 2176 17 rfl inb_S512x3584_S512x128_0_2176 inb_S512x28_S512x1_0_17 j, ?_⟩
    refine List.forall_mem_cons.mpr ⟨fun j => deqDy_load harg4 harg5 x2 x3 2048 16 rfl inb_S512x3584_S512x128_0_2048 inb_S512x28_S512x1_0_16 j, ?_⟩
    refine List.forall_mem_cons.mpr ⟨fun j => deqDy_load harg4 harg5 x2 x3 1920 15 rfl inb_S512x3584_S512x128_0_1920 inb_S512x28_S512x1_0_15 j, ?_⟩
    refine List.forall_mem_cons.mpr ⟨fun j => deqDy_load harg4 harg5 x2 x3 1792 14 rfl inb_S512x3584_S512x128_0_1792 inb_S512x28_S512x1_0_14 j, ?_⟩
    refine List.forall_mem_cons.mpr ⟨fun j => deqDy_load harg4 harg5 x2 x3 1664 13 rfl inb_S512x3584_S512x128_0_1664 inb_S512x28_S512x1_0_13 j, ?_⟩
    refine List.forall_mem_cons.mpr ⟨fun j => deqDy_load harg4 harg5 x2 x3 1536 12 rfl inb_S512x3584_S512x128_0_1536 inb_S512x28_S512x1_0_12 j, ?_⟩
    refine List.forall_mem_cons.mpr ⟨fun j => deqDy_load harg4 harg5 x2 x3 1408 11 rfl inb_S512x3584_S512x128_0_1408 inb_S512x28_S512x1_0_11 j, ?_⟩
    refine List.forall_mem_cons.mpr ⟨fun j => deqDy_load harg4 harg5 x2 x3 1280 10 rfl inb_S512x3584_S512x128_0_1280 inb_S512x28_S512x1_0_10 j, ?_⟩
    refine List.forall_mem_cons.mpr ⟨fun j => deqDy_load harg4 harg5 x2 x3 1152 9 rfl inb_S512x3584_S512x128_0_1152 inb_S512x28_S512x1_0_9 j, ?_⟩
    refine List.forall_mem_cons.mpr ⟨fun j => deqDy_load harg4 harg5 x2 x3 1024 8 rfl inb_S512x3584_S512x128_0_1024 inb_S512x28_S512x1_0_8 j, ?_⟩
    refine List.forall_mem_cons.mpr ⟨fun j => deqDy_load harg4 harg5 x2 x3 896 7 rfl inb_S512x3584_S512x128_0_896 inb_S512x28_S512x1_0_7 j, ?_⟩
    refine List.forall_mem_cons.mpr ⟨fun j => deqDy_load harg4 harg5 x2 x3 768 6 rfl inb_S512x3584_S512x128_0_768 inb_S512x28_S512x1_0_6 j, ?_⟩
    refine List.forall_mem_cons.mpr ⟨fun j => deqDy_load harg4 harg5 x2 x3 640 5 rfl inb_S512x3584_S512x128_0_640 inb_S512x28_S512x1_0_5 j, ?_⟩
    refine List.forall_mem_cons.mpr ⟨fun j => deqDy_load harg4 harg5 x2 x3 512 4 rfl inb_S512x3584_S512x128_0_512 inb_S512x28_S512x1_0_4 j, ?_⟩
    refine List.forall_mem_cons.mpr ⟨fun j => deqDy_load harg4 harg5 x2 x3 384 3 rfl inb_S512x3584_S512x128_0_384 inb_S512x28_S512x1_0_3 j, ?_⟩
    refine List.forall_mem_cons.mpr ⟨fun j => deqDy_load harg4 harg5 x2 x3 256 2 rfl inb_S512x3584_S512x128_0_256 inb_S512x28_S512x1_0_2 j, ?_⟩
    refine List.forall_mem_cons.mpr ⟨fun j => deqDy_load harg4 harg5 x2 x3 128 1 rfl inb_S512x3584_S512x128_0_128 inb_S512x28_S512x1_0_1 j, ?_⟩
    refine List.forall_mem_cons.mpr ⟨fun j => deqDy_load harg4 harg5 x2 x3 0 0 rfl inb_S512x3584_S512x128_0_0 inb_S512x28_S512x1_0_0 j, ?_⟩
    exact fun p hp => absurd hp List.not_mem_nil
  have h9 := readAt_whole harg11 xo9 off2 inb_S3584x512_S3584x512_0_0
  have h10 := readAt_whole harg12 xo10 off2 inb_S3584x512_S3584x512_0_0
  have h11 := readAt_whole harg13 xo11 off2 inb_S256x3584_S256x3584_0_0
  have hs2 := readAt_whole harg16 xs2 off2 inb_S256x3584_S256x3584_0_0
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    exact read_of_whole_store _ _ off2 _ _ _ _ (by unfold ptDgu; rw [hX, h9, hD, hs2])
  isplitl [H9]
  · iexists _; isplitr; · ipureintro; exact harg11.read_unread _
    iexact H9
  isplitl [H10]
  · iexists _; isplitr
    swap; · iexact H10
    ipureintro
    exact read_of_whole_store _ _ off2 _ _ _ _ (by unfold ptDwgu; rw [hX, h9, hD, hs2, h10])
  isplitl [H11]
  · iexists _; isplitr
    swap; · iexact H11
    ipureintro
    exact read_of_whole_store _ _ off2 _ _ _ _ (by unfold ptDwd; rw [show body_B.sl.r_21 c arg2 harg2 arg3 harg3 arg11 harg11 arg14 x0 x1 xo9 = k0_pay121 _ _ from congrArg₂ k0_pay121 hX h9, show body_B.sl.r_22 c arg13 harg13 xo11 = k0_pay124 _ from congrArg k0_pay124 h11, hD]; rfl)
  isplitl [HS0]
  · iexists _; iexists _; isplitr
    swap; · iexact HS0
    ipureintro; rfl
  isplitl [HS1]
  · iexists _; iexists _; isplitr
    swap; · iexact HS1
    ipureintro; rfl
  iexists _; isplitr; · ipureintro; exact harg16.read_unread _
  iexact HS2

end Cert.KernelIdeal.Hand

end
-- ==== Proof.KernelIdeal.BodyA.lean ====
/- The first kernel's body at the first point of a block of columns: the weight blocks are dequantized and the running sums start at zero. -/
module

public import proofs.«01_k».proof.Proof.KernelIdeal.Spec
public import proofs.«01_k».proof.Proof.KernelIdeal.BodyB

@[expose] public section

-- the structural walk over rectangles of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in
/-- The first kernel's body at the first point of a block of columns: the weight blocks are dequantized and the running sums start at zero.
    From the eight input blocks it leaves the token gradients, the dequantized weights and the two sums of `Spec`. -/
theorem body_A (c : Dev nD) (i : grid0.Coords) (arg2 : Memref sig .tc .vmem S512x3584 .fp8e4m3) (harg2 : arg2.IsWhole) (arg3 : Memref sig .tc .vmem S512x28 .f32) (harg3 : arg3.IsWhole) (arg4 : Memref sig .tc .vmem S512x3584 .fp8e5m2) (harg4 : arg4.IsWhole) (arg5 : Memref sig .tc .vmem S512x28 .f32) (harg5 : arg5.IsWhole) (arg6 : Memref sig .tc .vmem S3584x512 .fp8e4m3) (harg6 : arg6.IsWhole) (arg7 : Memref sig .tc .vmem S28x512 .f32) (harg7 : arg7.IsWhole) (arg8 : Memref sig .tc .vmem S256x3584 .fp8e4m3) (harg8 : arg8.IsWhole) (arg9 : Memref sig .tc .vmem S1x2x3584 .f32) (harg9 : arg9.IsWhole) (arg10 : Memref sig .tc .vmem S512x512 .bf16) (harg10 : arg10.IsWhole) (arg11 : Memref sig .tc .vmem S3584x512 .bf16) (harg11 : arg11.IsWhole) (arg12 : Memref sig .tc .vmem S3584x512 .f32) (harg12 : arg12.IsWhole) (arg13 : Memref sig .tc .vmem S256x3584 .f32) (harg13 : arg13.IsWhole) (arg14 : Memref sig .tc .vmem S512x3584 .bf16) (harg14 : arg14.IsWhole) (arg15 : Memref sig .tc .vmem S512x3584 .bf16) (harg15 : arg15.IsWhole) (arg16 : Memref sig .tc .vmem S256x3584 .bf16) (harg16 : arg16.IsWhole) (hc0 : k0_cond1 i = 1#1)
    (x0 : Vec F S512x3584 .fp8e4m3) (x1 : Vec F S512x28 .f32) (x2 : Vec F S512x3584 .fp8e5m2) (x3 : Vec F S512x28 .f32) (x4 : Vec F S3584x512 .fp8e4m3) (x5 : Vec F S28x512 .f32) (x6 : Vec F S256x3584 .fp8e4m3) (x7 : Vec F S1x2x3584 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
       ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (ptDgu (deqCol bitsLt_fp8e4m3_bf16 x0 x1) (deqRow x4 x5) (deqCol bitsLt_fp8e5m2_bf16 x2 x3) (deqDown x6 x7)) ∗ owns (c : Thread nD τ) arg11 fullShare (deqRow x4 x5) ∗ owns (c : Thread nD τ) arg12 fullShare (ptDwgu (deqCol bitsLt_fp8e4m3_bf16 x0 x1) (deqRow x4 x5) (deqCol bitsLt_fp8e5m2_bf16 x2 x3) (deqDown x6 x7) k0_pay38) ∗ owns (c : Thread nD τ) arg13 fullShare (ptDwd (deqCol bitsLt_fp8e4m3_bf16 x0 x1) (deqRow x4 x5) (deqCol bitsLt_fp8e5m2_bf16 x2 x3) k0_pay39) ∗ (∃ d, owns (c : Thread nD τ) arg14 fullShare d) ∗ (∃ d, owns (c : Thread nD τ) arg15 fullShare d) ∗ owns (c : Thread nD τ) arg16 fullShare (deqDown x6 x7)) -∗ K ⟨⟩))
      ⊢ wp frame (wpE (defs₀ (F := F)) Variants.none c none) E (cc0_ff_and_dw i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ff_and_dw_eq_skeleton]; unfold cc0_ff_and_dw_skel
  simp only [k0_part7_eq_skeleton, k0_part1_eq_skeleton, k0_part2_eq_skeleton, k0_part3_eq_skeleton, k0_part4_eq_skeleton, k0_part5_eq_skeleton, k0_part6_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := sl_exact hc0)
  sl_step
  have hX : body_A.sl.v619 c arg2 harg2 arg3 harg3 arg14 x0 x1 = deqCol bitsLt_fp8e4m3_bf16 x0 x1 := by
    unfold body_A.sl.v619
    refine readCov_of_pieces _ _ _ off2 _ (View.cover_of_tiledL _ ![512, 128] (by sl_kernel_rfl)) ?_
    refine List.forall_mem_cons.mpr ⟨fun j => deqX_load harg2 harg3 x0 x1 3456 27 rfl inb_S512x3584_S512x128_0_3456 inb_S512x28_S512x1_0_27 j, ?_⟩
    refine List.forall_mem_cons.mpr ⟨fun j => deqX_load harg2 harg3 x0 x1 3328 26 rfl inb_S512x3584_S512x128_0_3328 inb_S512x28_S512x1_0_26 j, ?_⟩
    refine List.forall_mem_cons.mpr ⟨fun j => deqX_load harg2 harg3 x0 x1 3200 25 rfl inb_S512x3584_S512x128_0_3200 inb_S512x28_S512x1_0_25 j, ?_⟩
    refine List.forall_mem_cons.mpr ⟨fun j => deqX_load harg2 harg3 x0 x1 3072 24 rfl inb_S512x3584_S512x128_0_3072 inb_S512x28_S512x1_0_24 j, ?_⟩
    refine List.forall_mem_cons.mpr ⟨fun j => deqX_load harg2 harg3 x0 x1 2944 23 rfl inb_S512x3584_S512x128_0_2944 inb_S512x28_S512x1_0_23 j, ?_⟩
    refine List.forall_mem_cons.mpr ⟨fun j => deqX_load harg2 harg3 x0 x1 2816 22 rfl inb_S512x3584_S512x128_0_2816 inb_S512x28_S512x1_0_22 j, ?_⟩
    refine List.forall_mem_cons.mpr ⟨fun j => deqX_load harg2 harg3 x0 x1 2688 21 rfl inb_S512x3584_S512x128_0_2688 inb_S512x28_S512x1_0_21 j, ?_⟩
    refine List.forall_mem_cons.mpr ⟨fun j => deqX_load harg2 harg3 x0 x1 2560 20 rfl inb_S512x3584_S512x128_0_2560 inb_S512x28_S512x1_0_20 j, ?_⟩
    refine List.forall_mem_cons.mpr ⟨fun j => deqX_load harg2 harg3 x0 x1 2432 19 rfl inb_S512x3584_S512x128_0_2432 inb_S512x28_S512x1_0_19 j, ?_⟩
    refine List.forall_mem_cons.mpr ⟨fun j => deqX_load harg2 harg3 x0 x1 2304 18 rfl inb_S512x3584_S512x128_0_2304 inb_S512x28_S512x1_0_18 j, ?_⟩
    refine List.forall_mem_cons.mpr ⟨fun j => deqX_load harg2 harg3 x0 x1 2176 17 rfl inb_S512x3584_S512x128_0_2176 inb_S512x28_S512x1_0_17 j, ?_⟩
    refine List.forall_mem_cons.mpr ⟨fun j => deqX_load harg2 harg3 x0 x1 2048 16 rfl inb_S512x3584_S512x128_0_2048 inb_S512x28_S512x1_0_16 j, ?_⟩
    refine List.forall_mem_cons.mpr ⟨fun j => deqX_load harg2 harg3 x0 x1 1920 15 rfl inb_S512x3584_S512x128_0_1920 inb_S512x28_S512x1_0_15 j, ?_⟩
    refine List.forall_mem_cons.mpr ⟨fun j => deqX_load harg2 harg3 x0 x1 1792 14 rfl inb_S512x3584_S512x128_0_1792 inb_S512x28_S512x1_0_14 j, ?_⟩
    refine List.forall_mem_cons.mpr ⟨fun j => deqX_load harg2 harg3 x0 x1 1664 13 rfl inb_S512x3584_S512x128_0_1664 inb_S512x28_S512x1_0_13 j, ?_⟩
    refine List.forall_mem_cons.mpr ⟨fun j => deqX_load harg2 harg3 x0 x1 1536 12 rfl inb_S512x3584_S512x128_0_1536 inb_S512x28_S512x1_0_12 j, ?_⟩
    refine List.forall_mem_cons.mpr ⟨fun j => deqX_load harg2 harg3 x0 x1 1408 11 rfl inb_S512x3584_S512x128_0_1408 inb_S512x28_S512x1_0_11 j, ?_⟩
    refine List.forall_mem_cons.mpr ⟨fun j => deqX_load harg2 harg3 x0 x1 1280 10 rfl inb_S512x3584_S512x128_0_1280 inb_S512x28_S512x1_0_10 j, ?_⟩
    refine List.forall_mem_cons.mpr ⟨fun j => deqX_load harg2 harg3 x0 x1 1152 9 rfl inb_S512x3584_S512x128_0_1152 inb_S512x28_S512x1_0_9 j, ?_⟩
    refine List.forall_mem_cons.mpr ⟨fun j => deqX_load harg2 harg3 x0 x1 1024 8 rfl inb_S512x3584_S512x128_0_1024 inb_S512x28_S512x1_0_8 j, ?_⟩
    refine List.forall_mem_cons.mpr ⟨fun j => deqX_load harg2 harg3 x0 x1 896 7 rfl inb_S512x3584_S512x128_0_896 inb_S512x28_S512x1_0_7 j, ?_⟩
    refine List.forall_mem_cons.mpr ⟨fun j => deqX_load harg2 harg3 x0 x1 768 6 rfl inb_S512x3584_S512x128_0_768 inb_S512x28_S512x1_0_6 j, ?_⟩
    refine List.forall_mem_cons.mpr ⟨fun j => deqX_load harg2 harg3 x0 x1 640 5 rfl inb_S512x3584_S512x128_0_640 inb_S512x28_S512x1_0_5 j, ?_⟩
    refine List.forall_mem_cons.mpr ⟨fun j => deqX_load harg2 harg3 x0 x1 512 4 rfl inb_S512x3584_S512x128_0_512 inb_S512x28_S512x1_0_4 j, ?_⟩
    refine List.forall_mem_cons.mpr ⟨fun j => deqX_load harg2 harg3 x0 x1 384 3 rfl inb_S512x3584_S512x128_0_384 inb_S512x28_S512x1_0_3 j, ?_⟩
    refine List.forall_mem_cons.mpr ⟨fun j => deqX_load harg2 harg3 x0 x1 256 2 rfl inb_S512x3584_S512x128_0_256 inb_S512x28_S512x1_0_2 j, ?_⟩
    refine List.forall_mem_cons.mpr ⟨fun j => deqX_load harg2 harg3 x0 x1 128 1 rfl inb_S512x3584_S512x128_0_128 inb_S512x28_S512x1_0_1 j, ?_⟩
    refine List.forall_mem_cons.mpr ⟨fun j => deqX_load harg2 harg3 x0 x1 0 0 rfl inb_S512x3584_S512x128_0_0 inb_S512x28_S512x1_0_0 j, ?_⟩
    exact fun p hp => absurd hp List.not_mem_nil
  have hD : body_A.sl.v623 c arg4 harg4 arg5 harg5 arg15 x2 x3 = deqCol bitsLt_fp8e5m2_bf16 x2 x3 := by
    unfold body_A.sl.v623
    refine readCov_of_pieces _ _ _ off2 _ (View.cover_of_tiledL _ ![512, 128] (by sl_kernel_rfl)) ?_
    refine List.forall_mem_cons.mpr ⟨fun j => deqDy_load harg4 harg5 x2 x3 3456 27 rfl inb_S512x3584_S512x128_0_3456 inb_S512x28_S512x1_0_27 j, ?_⟩
    refine List.forall_mem_cons.mpr ⟨fun j => deqDy_load harg4 harg5 x2 x3 3328 26 rfl inb_S512x3584_S512x128_0_3328 inb_S512x28_S512x1_0_26 j, ?_⟩
    refine List.forall_mem_cons.mpr ⟨fun j => deqDy_load harg4 harg5 x2 x3 3200 25 rfl inb_S512x3584_S512x128_0_3200 inb_S512x28_S512x1_0_25 j, ?_⟩
    refine List.forall_mem_cons.mpr ⟨fun j => deqDy_load harg4 harg5 x2 x3 3072 24 rfl inb_S512x3584_S512x128_0_3072 inb_S512x28_S512x1_0_24 j, ?_⟩
    refine List.forall_mem_cons.mpr ⟨fun j => deqDy_load harg4 harg5 x2 x3 2944 23 rfl inb_S512x3584_S512x128_0_2944 inb_S512x28_S512x1_0_23 j, ?_⟩
    refine List.forall_mem_cons.mpr ⟨fun j => deqDy_load harg4 harg5 x2 x3 2816 22 rfl inb_S512x3584_S512x128_0_2816 inb_S512x28_S512x1_0_22 j, ?_⟩
    refine List.forall_mem_cons.mpr ⟨fun j => deqDy_load harg4 harg5 x2 x3 2688 21 rfl inb_S512x3584_S512x128_0_2688 inb_S512x28_S512x1_0_21 j, ?_⟩
    refine List.forall_mem_cons.mpr ⟨fun j => deqDy_load harg4 harg5 x2 x3 2560 20 rfl inb_S512x3584_S512x128_0_2560 inb_S512x28_S512x1_0_20 j, ?_⟩
    refine List.forall_mem_cons.mpr ⟨fun j => deqDy_load harg4 harg5 x2 x3 2432 19 rfl inb_S512x3584_S512x128_0_2432 inb_S512x28_S512x1_0_19 j, ?_⟩
    refine List.forall_mem_cons.mpr ⟨fun j => deqDy_load harg4 harg5 x2 x3 2304 18 rfl inb_S512x3584_S512x128_0_2304 inb_S512x28_S512x1_0_18 j, ?_⟩
    refine List.forall_mem_cons.mpr ⟨fun j => deqDy_load harg4 harg5 x2 x3 2176 17 rfl inb_S512x3584_S512x128_0_2176 inb_S512x28_S512x1_0_17 j, ?_⟩
    refine List.forall_mem_cons.mpr ⟨fun j => deqDy_load harg4 harg5 x2 x3 2048 16 rfl inb_S512x3584_S512x128_0_2048 inb_S512x28_S512x1_0_16 j, ?_⟩
    refine List.forall_mem_cons.mpr ⟨fun j => deqDy_load harg4 harg5 x2 x3 1920 15 rfl inb_S512x3584_S512x128_0_1920 inb_S512x28_S512x1_0_15 j, ?_⟩
    refine List.forall_mem_cons.mpr ⟨fun j => deqDy_load harg4 harg5 x2 x3 1792 14 rfl inb_S512x3584_S512x128_0_1792 inb_S512x28_S512x1_0_14 j, ?_⟩
    refine List.forall_mem_cons.mpr ⟨fun j => deqDy_load harg4 harg5 x2 x3 1664 13 rfl inb_S512x3584_S512x128_0_1664 inb_S512x28_S512x1_0_13 j, ?_⟩
    refine List.forall_mem_cons.mpr ⟨fun j => deqDy_load harg4 harg5 x2 x3 1536 12 rfl inb_S512x3584_S512x128_0_1536 inb_S512x28_S512x1_0_12 j, ?_⟩
    refine List.forall_mem_cons.mpr ⟨fun j => deqDy_load harg4 harg5 x2 x3 1408 11 rfl inb_S512x3584_S512x128_0_1408 inb_S512x28_S512x1_0_11 j, ?_⟩
    refine List.forall_mem_cons.mpr ⟨fun j => deqDy_load harg4 harg5 x2 x3 1280 10 rfl inb_S512x3584_S512x128_0_1280 inb_S512x28_S512x1_0_10 j, ?_⟩
    refine List.forall_mem_cons.mpr ⟨fun j => deqDy_load harg4 harg5 x2 x3 1152 9 rfl inb_S512x3584_S512x128_0_1152 inb_S512x28_S512x1_0_9 j, ?_⟩
    refine List.forall_mem_cons.mpr ⟨fun j => deqDy_load harg4 harg5 x2 x3 1024 8 rfl inb_S512x3584_S512x128_0_1024 inb_S512x28_S512x1_0_8 j, ?_⟩
    refine List.forall_mem_cons.mpr ⟨fun j => deqDy_load harg4 harg5 x2 x3 896 7 rfl inb_S512x3584_S512x128_0_896 inb_S512x28_S512x1_0_7 j, ?_⟩
    refine List.forall_mem_cons.mpr ⟨fun j => deqDy_load harg4 harg5 x2 x3 768 6 rfl inb_S512x3584_S512x128_0_768 inb_S512x28_S512x1_0_6 j, ?_⟩
    refine List.forall_mem_cons.mpr ⟨fun j => deqDy_load harg4 harg5 x2 x3 640 5 rfl inb_S512x3584_S512x128_0_640 inb_S512x28_S512x1_0_5 j, ?_⟩
    refine List.forall_mem_cons.mpr ⟨fun j => deqDy_load harg4 harg5 x2 x3 512 4 rfl inb_S512x3584_S512x128_0_512 inb_S512x28_S512x1_0_4 j, ?_⟩
    refine List.forall_mem_cons.mpr ⟨fun j => deqDy_load harg4 harg5 x2 x3 384 3 rfl inb_S512x3584_S512x128_0_384 inb_S512x28_S512x1_0_3 j, ?_⟩
    refine List.forall_mem_cons.mpr ⟨fun j => deqDy_load harg4 harg5 x2 x3 256 2 rfl inb_S512x3584_S512x128_0_256 inb_S512x28_S512x1_0_2 j, ?_⟩
    refine List.forall_mem_cons.mpr ⟨fun j => deqDy_load harg4 harg5 x2 x3 128 1 rfl inb_S512x3584_S512x128_0_128 inb_S512x28_S512x1_0_1 j, ?_⟩
    refine List.forall_mem_cons.mpr ⟨fun j => deqDy_load harg4 harg5 x2 x3 0 0 rfl inb_S512x3584_S512x128_0_0 inb_S512x28_S512x1_0_0 j, ?_⟩
    exact fun p hp => absurd hp List.not_mem_nil
  have hW : body_A.sl.v620 c arg6 harg6 arg7 harg7 arg11 x4 x5 = deqRow x4 x5 := by
    unfold body_A.sl.v620
    refine readCov_of_pieces _ _ _ off2 _ (View.cover_of_tiledL _ ![128, 512] (by sl_kernel_rfl)) ?_
    refine List.forall_mem_cons.mpr ⟨fun j => deqRow_load harg6 harg7 x4 x5 3456 27 rfl inb_S3584x512_S128x512_3456_0 j, ?_⟩
    refine List.forall_mem_cons.mpr ⟨fun j => deqRow_load harg6 harg7 x4 x5 3328 26 rfl inb_S3584x512_S128x512_3328_0 j, ?_⟩
    refine List.forall_mem_cons.mpr ⟨fun j => deqRow_load harg6 harg7 x4 x5 3200 25 rfl inb_S3584x512_S128x512_3200_0 j, ?_⟩
    refine List.forall_mem_cons.mpr ⟨fun j => deqRow_load harg6 harg7 x4 x5 3072 24 rfl inb_S3584x512_S128x512_3072_0 j, ?_⟩
    refine List.forall_mem_cons.mpr ⟨fun j => deqRow_load harg6 harg7 x4 x5 2944 23 rfl inb_S3584x512_S128x512_2944_0 j, ?_⟩
    refine List.forall_mem_cons.mpr ⟨fun j => deqRow_load harg6 harg7 x4 x5 2816 22 rfl inb_S3584x512_S128x512_2816_0 j, ?_⟩
    refine List.forall_mem_cons.mpr ⟨fun j => deqRow_load harg6 harg7 x4 x5 2688 21 rfl inb_S3584x512_S128x512_2688_0 j, ?_⟩
    refine List.forall_mem_cons.mpr ⟨fun j => deqRow_load harg6 harg7 x4 x5 2560 20 rfl inb_S3584x512_S128x512_2560_0 j, ?_⟩
    refine List.forall_mem_cons.mpr ⟨fun j => deqRow_load harg6 harg7 x4 x5 2432 19 rfl inb_S3584x512_S128x512_2432_0 j, ?_⟩
    refine List.forall_mem_cons.mpr ⟨fun j => deqRow_load harg6 harg7 x4 x5 2304 18 rfl inb_S3584x512_S128x512_2304_0 j, ?_⟩
    refine List.forall_mem_cons.mpr ⟨fun j => deqRow_load harg6 harg7 x4 x5 2176 17 rfl inb_S3584x512_S128x512_2176_0 j, ?_⟩
    refine List.forall_mem_cons.mpr ⟨fun j => deqRow_load harg6 harg7 x4 x5 2048 16 rfl inb_S3584x512_S128x512_2048_0 j, ?_⟩
    refine List.forall_mem_cons.mpr ⟨fun j => deqRow_load harg6 harg7 x4 x5 1920 15 rfl inb_S3584x512_S128x512_1920_0 j, ?_⟩
    refine List.forall_mem_cons.mpr ⟨fun j => deqRow_load harg6 harg7 x4 x5 1792 14 rfl inb_S3584x512_S128x512_1792_0 j, ?_⟩
    refine List.forall_mem_cons.mpr ⟨fun j => deqRow_load harg6 harg7 x4 x5 1664 13 rfl inb_S3584x512_S128x512_1664_0 j, ?_⟩
    refine List.forall_mem_cons.mpr ⟨fun j => deqRow_load harg6 harg7 x4 x5 1536 12 rfl inb_S3584x512_S128x512_1536_0 j, ?_⟩
    refine List.forall_mem_cons.mpr ⟨fun j => deqRow_load harg6 harg7 x4 x5 1408 11 rfl inb_S3584x512_S128x512_1408_0 j, ?_⟩
    refine List.forall_mem_cons.mpr ⟨fun j => deqRow_load harg6 harg7 x4 x5 1280 10 rfl inb_S3584x512_S128x512_1280_0 j, ?_⟩
    refine List.forall_mem_cons.mpr ⟨fun j => deqRow_load harg6 harg7 x4 x5 1152 9 rfl inb_S3584x512_S128x512_1152_0 j, ?_⟩
    refine List.forall_mem_cons.mpr ⟨fun j => deqRow_load harg6 harg7 x4 x5 1024 8 rfl inb_S3584x512_S128x512_1024_0 j, ?_⟩
    refine List.forall_mem_cons.mpr ⟨fun j => deqRow_load harg6 harg7 x4 x5 896 7 rfl inb_S3584x512_S128x512_896_0 j, ?_⟩
    refine List.forall_mem_cons.mpr ⟨fun j => deqRow_load harg6 harg7 x4 x5 768 6 rfl inb_S3584x512_S128x512_768_0 j, ?_⟩
    refine List.forall_mem_cons.mpr ⟨fun j => deqRow_load harg6 harg7 x4 x5 640 5 rfl inb_S3584x512_S128x512_640_0 j, ?_⟩
    refine List.forall_mem_cons.mpr ⟨fun j => deqRow_load harg6 harg7 x4 x5 512 4 rfl inb_S3584x512_S128x512_512_0 j, ?_⟩
    refine List.forall_mem_cons.mpr ⟨fun j => deqRow_load harg6 harg7 x4 x5 384 3 rfl inb_S3584x512_S128x512_384_0 j, ?_⟩
    refine List.forall_mem_cons.mpr ⟨fun j => deqRow_load harg6 harg7 x4 x5 256 2 rfl inb_S3584x512_S128x512_256_0 j, ?_⟩
    refine List.forall_mem_cons.mpr ⟨fun j => deqRow_load harg6 harg7 x4 x5 128 1 rfl inb_S3584x512_S128x512_128_0 j, ?_⟩
    refine List.forall_mem_cons.mpr ⟨fun j => deqRow_load harg6 harg7 x4 x5 0 0 rfl inb_S3584x512_S128x512_0_0 j, ?_⟩
    exact fun p hp => absurd hp List.not_mem_nil
  have hS : body_A.sl.v624 c arg8 harg8 arg9 harg9 arg16 x6 x7 = deqDown x6 x7 := by
    unfold body_A.sl.v624
    refine readCov_of_pieces _ _ _ off2 _ (View.cover_of_tiledL _ ![128, 3584] (by sl_kernel_rfl)) ?_
    refine List.forall_mem_cons.mpr ⟨fun j => deqDown_load harg8 harg9 x6 x7 128 1 (by decide) rfl inb_S256x3584_S128x3584_128_0 j, ?_⟩
    refine List.forall_mem_cons.mpr ⟨fun j => deqDown_load harg8 harg9 x6 x7 0 0 (by decide) rfl inb_S256x3584_S128x3584_0_0 j, ?_⟩
    exact fun p hp => absurd hp List.not_mem_nil
  have h10 : body_A.sl.v646 (F := F) c arg12 = k0_pay38 := by
    unfold body_A.sl.v646
    exact View.readCov_unit_zero _ off2 _ _
  have h11 : body_A.sl.v652 (F := F) c arg13 = k0_pay39 := by
    unfold body_A.sl.v652
    exact View.readCov_unit_zero _ off2 _ _
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine read_of_whole_store _ _ off2 _ _ _ _ ?_
    unfold ptDgu
    rw [hX, hW, hD, hS]
  isplitl [H9]
  · iexists _; isplitr
    swap; · iexact H9
    ipureintro
    refine read_of_pieces _ _ _ _ (View.cover_of_tiledL _ ![128, 512] (by sl_kernel_rfl)) ?_
    refine List.forall_mem_cons.mpr ⟨fun j => deqRow_load harg6 harg7 x4 x5 3456 27 rfl inb_S3584x512_S128x512_3456_0 j, ?_⟩
    refine List.forall_mem_cons.mpr ⟨fun j => deqRow_load harg6 harg7 x4 x5 3328 26 rfl inb_S3584x512_S128x512_3328_0 j, ?_⟩
    refine List.forall_mem_cons.mpr ⟨fun j => deqRow_load harg6 harg7 x4 x5 3200 25 rfl inb_S3584x512_S128x512_3200_0 j, ?_⟩
    refine List.forall_mem_cons.mpr ⟨fun j => deqRow_load harg6 harg7 x4 x5 3072 24 rfl inb_S3584x512_S128x512_3072_0 j, ?_⟩
    refine List.forall_mem_cons.mpr ⟨fun j => deqRow_load harg6 harg7 x4 x5 2944 23 rfl inb_S3584x512_S128x512_2944_0 j, ?_⟩
    refine List.forall_mem_cons.mpr ⟨fun j => deqRow_load harg6 harg7 x4 x5 2816 22 rfl inb_S3584x512_S128x512_2816_0 j, ?_⟩
    refine List.forall_mem_cons.mpr ⟨fun j => deqRow_load harg6 harg7 x4 x5 2688 21 rfl inb_S3584x512_S128x512_2688_0 j, ?_⟩
    refine List.forall_mem_cons.mpr ⟨fun j => deqRow_load harg6 harg7 x4 x5 2560 20 rfl inb_S3584x512_S128x512_2560_0 j, ?_⟩
    refine List.forall_mem_cons.mpr ⟨fun j => deqRow_load harg6 harg7 x4 x5 2432 19 rfl inb_S3584x512_S128x512_2432_0 j, ?_⟩
    refine List.forall_mem_cons.mpr ⟨fun j => deqRow_load harg6 harg7 x4 x5 2304 18 rfl inb_S3584x512_S128x512_2304_0 j, ?_⟩
    refine List.forall_mem_cons.mpr ⟨fun j => deqRow_load harg6 harg7 x4 x5 2176 17 rfl inb_S3584x512_S128x512_2176_0 j, ?_⟩
    refine List.forall_mem_cons.mpr ⟨fun j => deqRow_load harg6 harg7 x4 x5 2048 16 rfl inb_S3584x512_S128x512_2048_0 j, ?_⟩
    refine List.forall_mem_cons.mpr ⟨fun j => deqRow_load harg6 harg7 x4 x5 1920 15 rfl inb_S3584x512_S128x512_1920_0 j, ?_⟩
    refine List.forall_mem_cons.mpr ⟨fun j => deqRow_load harg6 harg7 x4 x5 1792 14 rfl inb_S3584x512_S128x512_1792_0 j, ?_⟩
    refine List.forall_mem_cons.mpr ⟨fun j => deqRow_load harg6 harg7 x4 x5 1664 13 rfl inb_S3584x512_S128x512_1664_0 j, ?_⟩
    refine List.forall_mem_cons.mpr ⟨fun j => deqRow_load harg6 harg7 x4 x5 1536 12 rfl inb_S3584x512_S128x512_1536_0 j, ?_⟩
    refine List.forall_mem_cons.mpr ⟨fun j => deqRow_load harg6 harg7 x4 x5 1408 11 rfl inb_S3584x512_S128x512_1408_0 j, ?_⟩
    refine List.forall_mem_cons.mpr ⟨fun j => deqRow_load harg6 harg7 x4 x5 1280 10 rfl inb_S3584x512_S128x512_1280_0 j, ?_⟩
    refine List.forall_mem_cons.mpr ⟨fun j => deqRow_load harg6 harg7 x4 x5 1152 9 rfl inb_S3584x512_S128x512_1152_0 j, ?_⟩
    refine List.forall_mem_cons.mpr ⟨fun j => deqRow_load harg6 harg7 x4 x5 1024 8 rfl inb_S3584x512_S128x512_1024_0 j, ?_⟩
    refine List.forall_mem_cons.mpr ⟨fun j => deqRow_load harg6 harg7 x4 x5 896 7 rfl inb_S3584x512_S128x512_896_0 j, ?_⟩
    refine List.forall_mem_cons.mpr ⟨fun j => deqRow_load harg6 harg7 x4 x5 768 6 rfl inb_S3584x512_S128x512_768_0 j, ?_⟩
    refine List.forall_mem_cons.mpr ⟨fun j => deqRow_load harg6 harg7 x4 x5 640 5 rfl inb_S3584x512_S128x512_640_0 j, ?_⟩
    refine List.forall_mem_cons.mpr ⟨fun j => deqRow_load harg6 harg7 x4 x5 512 4 rfl inb_S3584x512_S128x512_512_0 j, ?_⟩
    refine List.forall_mem_cons.mpr ⟨fun j => deqRow_load harg6 harg7 x4 x5 384 3 rfl inb_S3584x512_S128x512_384_0 j, ?_⟩
    refine List.forall_mem_cons.mpr ⟨fun j => deqRow_load harg6 harg7 x4 x5 256 2 rfl inb_S3584x512_S128x512_256_0 j, ?_⟩
    refine List.forall_mem_cons.mpr ⟨fun j => deqRow_load harg6 harg7 x4 x5 128 1 rfl inb_S3584x512_S128x512_128_0 j, ?_⟩
    refine List.forall_mem_cons.mpr ⟨fun j => deqRow_load harg6 harg7 x4 x5 0 0 rfl inb_S3584x512_S128x512_0_0 j, ?_⟩
    exact fun p hp => absurd hp List.not_mem_nil
  isplitl [H10]
  · iexists _; isplitr
    swap; · iexact H10
    ipureintro
    refine read_of_whole_store _ _ off2 _ _ _ _ ?_
    unfold ptDwgu
    rw [hX, hW, hD, hS, h10]
  isplitl [H11]
  · iexists _; isplitr
    swap; · iexact H11
    ipureintro
    refine read_of_whole_store _ _ off2 _ _ _ _ ?_
    unfold ptDwd
    unfold body_A.sl.r_28 body_A.sl.r_29 body_A.sl.cst_306
    rw [hX, hW, hD, h11]
  isplitl [HS0]
  · iexists _; iexists _; isplitr
    swap; · iexact HS0
    ipureintro; rfl
  isplitl [HS1]
  · iexists _; iexists _; isplitr
    swap; · iexact HS1
    ipureintro; rfl
  iexists _; isplitr
  swap; · iexact HS2
  ipureintro
  refine read_of_pieces _ _ _ _ (View.cover_of_tiledL _ ![128, 3584] (by sl_kernel_rfl)) ?_
  refine List.forall_mem_cons.mpr ⟨fun j => deqDown_load harg8 harg9 x6 x7 128 1 (by decide) rfl inb_S256x3584_S128x3584_128_0 j, ?_⟩
  refine List.forall_mem_cons.mpr ⟨fun j => deqDown_load harg8 harg9 x6 x7 0 0 (by decide) rfl inb_S256x3584_S128x3584_0_0 j, ?_⟩
  exact fun p hp => absurd hp List.not_mem_nil

end Cert.KernelIdeal.Hand

end
-- ==== Proof.KernelIdeal.Region0.lean ====
/- The first kernel on the pipeline: what every window's buffer holds at every grid point, and the body's obligation.
   The grid has 19 blocks of columns by 128 tiles of 512 tokens; point `t` is tile `t % 128` of column block `t / 128`. -/
module

public import proofs.«01_k».proof.Proof.KernelIdeal.BodyA
public import proofs.«01_k».proof.Proof.KernelIdeal.BodyB
public import proofs.«01_k».proof.Proof.Gen.KernelIdeal.Points
public import Idealize.ShloMosaic.Lib.Pipeline.FrameBody
public import Idealize.ShloMosaic.Lib.Pipeline.TableIdle
public import Idealize.ShloMosaic.Lib.WordCmp

@[expose] public section

-- the structural walk over rectangles of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or carried from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 1 (the scales of the tokens) holds its block, for any record whose body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 2 (the codes of the upstream gradients) holds its block, for any record whose body leaves it in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 3 (the scales of the upstream gradients) holds its block, for any record whose body leaves it in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 4 (the codes of the gate and up weights) holds its block, for any record whose body leaves it in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 5 (the scales of the gate and up weights) holds its block, for any record whose body leaves it in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 6 (the codes of the down weights) holds its block, for any record whose body leaves it in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 7 (the scales of the down weights) holds its block, for any record whose body leaves it in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The dequantized blocks of a point, and the running sums -/

/-- The point's tokens, dequantized. -/
def xbAt (c : Dev nD) (t : Fin cfg0.N) : Vec F S512x3584 .bf16 := deqCol bitsLt_fp8e4m3_bf16 (iblk0 V c 0 t : Vec F S512x3584 .fp8e4m3) (iblk0 V c 1 t)
/-- The point's output gradients, dequantized. -/
def dybAt (c : Dev nD) (t : Fin cfg0.N) : Vec F S512x3584 .bf16 := deqCol bitsLt_fp8e5m2_bf16 (iblk0 V c 2 t : Vec F S512x3584 .fp8e5m2) (iblk0 V c 3 t)
/-- The point's gate and up columns, dequantized. -/
def wguAt (c : Dev nD) (t : Fin cfg0.N) : Vec F S3584x512 .bf16 := deqRow (iblk0 V c 4 t) (iblk0 V c 5 t)
/-- The point's down rows, dequantized. -/
def wdbAt (c : Dev nD) (t : Fin cfg0.N) : Vec F S256x3584 .bf16 := deqDown (iblk0 V c 6 t) (iblk0 V c 7 t)

/-- The running gate and up weight gradient after point `n`: it restarts from zero at the first tile of a column block. -/
def dwguAt (c : Dev nD) : (n : ℕ) → n < cfg0.N → Vec F S3584x512 .f32
  | 0, h => ptDwgu (xbAt V c ⟨0, h⟩) (wguAt V c ⟨0, h⟩) (dybAt V c ⟨0, h⟩) (wdbAt V c ⟨0, h⟩) k0_pay38
  | n + 1, h => ptDwgu (xbAt V c ⟨n + 1, h⟩) (wguAt V c ⟨n + 1, h⟩) (dybAt V c ⟨n + 1, h⟩) (wdbAt V c ⟨n + 1, h⟩)
      (if (n + 1) % 128 = 0 then k0_pay38 else dwguAt c n (Nat.lt_of_succ_lt h))
/-- The running down weight gradient after point `n`, likewise. -/
def dwdAt (c : Dev nD) : (n : ℕ) → n < cfg0.N → Vec F S256x3584 .f32
  | 0, h => ptDwd (xbAt V c ⟨0, h⟩) (wguAt V c ⟨0, h⟩) (dybAt V c ⟨0, h⟩) k0_pay39
  | n + 1, h => ptDwd (xbAt V c ⟨n + 1, h⟩) (wguAt V c ⟨n + 1, h⟩) (dybAt V c ⟨n + 1, h⟩)
      (if (n + 1) % 128 = 0 then k0_pay39 else dwdAt c n (Nat.lt_of_succ_lt h))

/-- At the first token tile the gate and up weight sum starts from zeros. -/
theorem dwguAt_A (c : Dev nD) (t : Fin cfg0.N) (h : t.val % 128 = 0) :
    dwguAt V c t.val t.isLt = ptDwgu (xbAt V c t) (wguAt V c t) (dybAt V c t) (wdbAt V c t) k0_pay38 := by
  obtain ⟨n, hn⟩ := t
  cases n with
  | zero => rfl
  | succ n => exact congrArg (ptDwgu _ _ _ _) (if_pos h)
/-- At a later token tile the gate and up weight sum continues from the point before. -/
theorem dwguAt_B (c : Dev nD) (t : Fin cfg0.N) (h : ¬t.val % 128 = 0) :
    dwguAt V c t.val t.isLt = ptDwgu (xbAt V c t) (wguAt V c t) (dybAt V c t) (wdbAt V c t) (dwguAt V c (t.val - 1) (Nat.lt_of_le_of_lt (Nat.sub_le _ _) t.isLt)) := by
  obtain ⟨n, hn⟩ := t
  cases n with
  | zero => exact absurd (Nat.zero_mod _) h
  | succ n => exact congrArg (ptDwgu _ _ _ _) (if_neg h)
/-- At the first token tile the down weight sum starts from zeros. -/
theorem dwdAt_A (c : Dev nD) (t : Fin cfg0.N) (h : t.val % 128 = 0) :
    dwdAt V c t.val t.isLt = ptDwd (xbAt V c t) (wguAt V c t) (dybAt V c t) k0_pay39 := by
  obtain ⟨n, hn⟩ := t
  cases n with
  | zero => rfl
  | succ n => exact congrArg (ptDwd _ _ _) (if_pos h)
/-- At a later token tile the down weight sum continues from the point before. -/
theorem dwdAt_B (c : Dev nD) (t : Fin cfg0.N) (h : ¬t.val % 128 = 0) :
    dwdAt V c t.val t.isLt = ptDwd (xbAt V c t) (wguAt V c t) (dybAt V c t) (dwdAt V c (t.val - 1) (Nat.lt_of_le_of_lt (Nat.sub_le _ _) t.isLt)) := by
  obtain ⟨n, hn⟩ := t
  cases n with
  | zero => exact absurd (Nat.zero_mod _) h
  | succ n => exact congrArg (ptDwd _ _ _) (if_neg h)

/-! ## When the weight blocks are dequantized -/

/-- The body's condition holds at the first tile of a column block. -/
theorem hcond0 (t : Fin cfg0.N) : k0_cond1 (grid0.coords t) = 1#1 ↔ t.val % 128 = 0 := by
  have ht : t.val < 2432 := Nat.lt_of_lt_of_eq t.isLt N_0
  have e0 : (grid0.coords t 0).val = t.val / 128 % 19 := Pipeline.Grid.coords_val t 0 (by decide) rfl
  have e1 : (grid0.coords t 1).val = t.val / 1 % 128 := Pipeline.Grid.coords_val t 1 (by decide) rfl
  simp only [k0_cond1, e0, e1]
  word_cmp

/-- The dequantized gate and up weights' buffer is stored into at the first tile of a column block alone. -/
theorem idle0_9 (t : Fin cfg0.N) : cfg0.idle 9 (grid0.coords t) = !decide (t.val % 128 = 0) := by
  show (!(k0_cond1 (grid0.coords t) == 1#1)) = _
  congr 1
  rw [Bool.eq_iff_iff, beq_iff_eq, decide_eq_true_iff]
  exact hcond0 t
/-- and so holds nothing of its block exactly when a column block begins. -/
theorem fresh0_9 (t : Fin cfg0.N) : cfg0.fresh 9 t.val = decide (t.val % 128 = 0) := by
  refine Pipeline.Cfg.fresh_tab cfg0 9 (fun n => decide (n % 128 = 0)) rfl (fun t => ?_) t.val (Nat.le_of_lt t.isLt)
  have hi : cfg0.idle 9 (cfg0.grid.coords t) = !decide (t.val % 128 = 0) := idle0_9 t
  have hf : (cfg0.win 9).flush t = decide (t.val % 128 = 127) := by
    rw [Bool.eq_iff_iff, decide_eq_true_iff]; exact flush0_9 t
  rw [hi, hf]
  by_cases h : t.val % 128 = 0 <;> by_cases h' : t.val % 128 = 127 <;> simp [h, h'] <;> omega

/-! ## The pipeline's proof data -/

/-- The scratch buffers. -/
abbrev scM0_0 : Memref sig .tc .vmem S512x3584 .bf16 := Memref.whole cc0_scratch0
/-- The scratch array of the dequantized upstream gradients. -/
abbrev scM0_1 : Memref sig .tc .vmem S512x3584 .bf16 := Memref.whole cc0_scratch1
/-- The scratch array of the dequantized down weights. -/
abbrev scM0_2 : Memref sig .tc .vmem S256x3584 .bf16 := Memref.whole cc0_scratch2

/-- The second kernel's staging buffers, at some contents: this region leaves them alone. -/
def stg1 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The region's scoped rest, with the scratch buffers as owned buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ stg1 c) ∗ (∃ r, prngReg c r)) := by
  unfold Pipeline.ΦA stg1; rw [scopedRest0_eq]; simp only [scM0_0, scM0_1, scM0_2, owns_whole]; try rfl

/-- What the region holds beside its windows before point `n`: at the start, its scratch at anything; later, the third
    scratch buffer at the down rows the point before used. -/
def PhiS (c : Dev nD) : (n : ℕ) → n ≤ cfg0.N → sProp 𝕄
  | 0, _ => Pipeline.ΦA spec0 c
  | n + 1, h => iprop(iprop((∃ d, owns (c : Thread nD τ) scM0_0 fullShare d) ∗ (∃ d, owns (c : Thread nD τ) scM0_1 fullShare d)
      ∗ owns (c : Thread nD τ) scM0_2 fullShare (wdbAt V c ⟨n, h⟩) ∗ stg1 c) ∗ (∃ r, prngReg c r))
/-- Before the first point nothing is known about the scratch arrays. -/
theorem PhiS_zero (c : Dev nD) (n : ℕ) (h : n ≤ cfg0.N) (hz : n = 0) : PhiS V c n h = Pipeline.ΦA spec0 c := by subst hz; rfl
/-- Before any later point the down weight scratch holds the dequantized block of the point before. -/
theorem PhiS_pos (c : Dev nD) (n : ℕ) (h : n ≤ cfg0.N) (hz : n ≠ 0) :
    PhiS V c n h = iprop(iprop((∃ d, owns (c : Thread nD τ) scM0_0 fullShare d) ∗ (∃ d, owns (c : Thread nD τ) scM0_1 fullShare d)
      ∗ owns (c : Thread nD τ) scM0_2 fullShare (wdbAt V c ⟨n - 1, by omega⟩) ∗ stg1 c) ∗ (∃ r, prngReg c r)) := by
  cases n with
  | zero => exact absurd rfl hz
  | succ n => rfl

/-- The proof data: the arrays as the region finds them, every input window's block left in place, and the outputs at
    the token gradients, the dequantized gate and up weights and the two running sums. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => ptDgu (xbAt V c t) (wguAt V c t) (dybAt V c t) (wdbAt V c t)
    | ⟨9, _⟩ => wguAt V c t
    | ⟨10, _⟩ => dwguAt V c t.val t.isLt
    | ⟨11, _⟩ => dwdAt V c t.val t.isLt
  Φ t := PhiS V c t.val (Nat.le_of_lt_succ t.isLt)
  q _ := fullShare
  owed _ := 0

/-- The proof data's arrays are the contents at the region's entry. -/
theorem A_eq0 (c : Dev nD) (w : Fin cfg0.W) : (dat0 V c).A w = V c (Pipeline.arrRef spec0 w) := by
  dsimp only [dat0]
/-- The assertion carried into a point is the one stated for its position in the run. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window. -/
theorem after0_0 (c : Dev nD) (t : Fin cfg0.N) : (dat0 V c).after 0 t = iblk0 V c 0 t := by dsimp only [dat0]
/-- The body leaves input window 1 (the scales of the tokens) as it was. -/
theorem after0_1 (c : Dev nD) (t : Fin cfg0.N) : (dat0 V c).after 1 t = iblk0 V c 1 t := by dsimp only [dat0]
/-- The body leaves input window 2 (the codes of the upstream gradients) as it was. -/
theorem after0_2 (c : Dev nD) (t : Fin cfg0.N) : (dat0 V c).after 2 t = iblk0 V c 2 t := by dsimp only [dat0]
/-- The body leaves input window 3 (the scales of the upstream gradients) as it was. -/
theorem after0_3 (c : Dev nD) (t : Fin cfg0.N) : (dat0 V c).after 3 t = iblk0 V c 3 t := by dsimp only [dat0]
/-- The body leaves input window 4 (the codes of the gate and up weights) as it was. -/
theorem after0_4 (c : Dev nD) (t : Fin cfg0.N) : (dat0 V c).after 4 t = iblk0 V c 4 t := by dsimp only [dat0]
/-- The body leaves input window 5 (the scales of the gate and up weights) as it was. -/
theorem after0_5 (c : Dev nD) (t : Fin cfg0.N) : (dat0 V c).after 5 t = iblk0 V c 5 t := by dsimp only [dat0]
/-- The body leaves input window 6 (the codes of the down weights) as it was. -/
theorem after0_6 (c : Dev nD) (t : Fin cfg0.N) : (dat0 V c).after 6 t = iblk0 V c 6 t := by dsimp only [dat0]
/-- The body leaves input window 7 (the scales of the down weights) as it was. -/
theorem after0_7 (c : Dev nD) (t : Fin cfg0.N) : (dat0 V c).after 7 t = iblk0 V c 7 t := by dsimp only [dat0]
/-- The body leaves the block of pre-activation gradients in window 8. -/
theorem after0_8 (c : Dev nD) (t : Fin cfg0.N) : (dat0 V c).after 8 t = ptDgu (xbAt V c t) (wguAt V c t) (dybAt V c t) (wdbAt V c t) := by dsimp only [dat0]
/-- The body leaves the dequantized gate and up weights in window 9. -/
theorem after0_9 (c : Dev nD) (t : Fin cfg0.N) : (dat0 V c).after 9 t = wguAt V c t := by dsimp only [dat0]
/-- The body leaves the running gate and up weight sum in window 10. -/
theorem after0_10 (c : Dev nD) (t : Fin cfg0.N) : (dat0 V c).after 10 t = dwguAt V c t.val t.isLt := by dsimp only [dat0]
/-- The body leaves the running down weight sum in window 11. -/
theorem after0_11 (c : Dev nD) (t : Fin cfg0.N) : (dat0 V c).after 11 t = dwdAt V c t.val t.isLt := by dsimp only [dat0]

/-- Each input's current buffer holds its block. -/
theorem before0_0 (c : Dev nD) (t : Fin cfg0.N) (d) : (dat0 V c).before 0 t d = iblk0 V c 0 t :=
  before0_0_of V (dat0 V c) (A_eq0 V c 0) (after0_0 V c) t d
/-- Before the body, input window 1 (the scales of the tokens) holds its block. -/
theorem before0_1 (c : Dev nD) (t : Fin cfg0.N) (d) : (dat0 V c).before 1 t d = iblk0 V c 1 t :=
  before0_1_of V (dat0 V c) (A_eq0 V c 1) (after0_1 V c) t d
/-- Before the body, input window 2 (the codes of the upstream gradients) holds its block. -/
theorem before0_2 (c : Dev nD) (t : Fin cfg0.N) (d) : (dat0 V c).before 2 t d = iblk0 V c 2 t :=
  before0_2_of V (dat0 V c) (A_eq0 V c 2) (after0_2 V c) t d
/-- Before the body, input window 3 (the scales of the upstream gradients) holds its block. -/
theorem before0_3 (c : Dev nD) (t : Fin cfg0.N) (d) : (dat0 V c).before 3 t d = iblk0 V c 3 t :=
  before0_3_of V (dat0 V c) (A_eq0 V c 3) (after0_3 V c) t d
/-- Before the body, input window 4 (the codes of the gate and up weights) holds its block. -/
theorem before0_4 (c : Dev nD) (t : Fin cfg0.N) (d) : (dat0 V c).before 4 t d = iblk0 V c 4 t :=
  before0_4_of V (dat0 V c) (A_eq0 V c 4) (after0_4 V c) t d
/-- Before the body, input window 5 (the scales of the gate and up weights) holds its block. -/
theorem before0_5 (c : Dev nD) (t : Fin cfg0.N) (d) : (dat0 V c).before 5 t d = iblk0 V c 5 t :=
  before0_5_of V (dat0 V c) (A_eq0 V c 5) (after0_5 V c) t d
/-- Before the body, input window 6 (the codes of the down weights) holds its block. -/
theorem before0_6 (c : Dev nD) (t : Fin cfg0.N) (d) : (dat0 V c).before 6 t d = iblk0 V c 6 t :=
  before0_6_of V (dat0 V c) (A_eq0 V c 6) (after0_6 V c) t d
/-- Before the body, input window 7 (the scales of the down weights) holds its block. -/
theorem before0_7 (c : Dev nD) (t : Fin cfg0.N) (d) : (dat0 V c).before 7 t d = iblk0 V c 7 t :=
  before0_7_of V (dat0 V c) (A_eq0 V c 7) (after0_7 V c) t d

/-! ## What does not move within a column block -/

/-- An input window's block is the one at the point before, where the window is not fetched anew. -/
theorem iblk0_4_pred (c : Dev nD) (t : Fin cfg0.N) (h : ¬t.val % 128 = 0) :
    iblk0 V c 4 ⟨t.val - 1, Nat.lt_of_le_of_lt (Nat.sub_le _ _) t.isLt⟩ = iblk0 V c 4 t := by
  have hf : (cfg0.win 4).fetch t = false := Bool.eq_false_iff.mpr fun hf => h ((fetch0_4 t).mp hf)
  have d : (cfg0.win 4).block.Idx → Elt F (cfg0.win 4).elt := iblk0 V c 4 t
  have e := (dat0 V c).before_unfetched_in 4 rfl t hf (fun _ => rfl) d
  rw [before0_4] at e
  rw [e]
  exact (after0_4 V c _).symm
/-- Away from the first token tile the block of gate and up scales is that of the point before. -/
theorem iblk0_5_pred (c : Dev nD) (t : Fin cfg0.N) (h : ¬t.val % 128 = 0) :
    iblk0 V c 5 ⟨t.val - 1, Nat.lt_of_le_of_lt (Nat.sub_le _ _) t.isLt⟩ = iblk0 V c 5 t := by
  have hf : (cfg0.win 5).fetch t = false := Bool.eq_false_iff.mpr fun hf => h ((fetch0_5 t).mp hf)
  have d : (cfg0.win 5).block.Idx → Elt F (cfg0.win 5).elt := iblk0 V c 5 t
  have e := (dat0 V c).before_unfetched_in 5 rfl t hf (fun _ => rfl) d
  rw [before0_5] at e
  rw [e]
  exact (after0_5 V c _).symm
/-- Away from the first token tile the block of down codes is that of the point before. -/
theorem iblk0_6_pred (c : Dev nD) (t : Fin cfg0.N) (h : ¬t.val % 128 = 0) :
    iblk0 V c 6 ⟨t.val - 1, Nat.lt_of_le_of_lt (Nat.sub_le _ _) t.isLt⟩ = iblk0 V c 6 t := by
  have hf : (cfg0.win 6).fetch t = false := Bool.eq_false_iff.mpr fun hf => h ((fetch0_6 t).mp hf)
  have d : (cfg0.win 6).block.Idx → Elt F (cfg0.win 6).elt := iblk0 V c 6 t
  have e := (dat0 V c).before_unfetched_in 6 rfl t hf (fun _ => rfl) d
  rw [before0_6] at e
  rw [e]
  exact (after0_6 V c _).symm
/-- Away from the first token tile the block of down scales is that of the point before. -/
theorem iblk0_7_pred (c : Dev nD) (t : Fin cfg0.N) (h : ¬t.val % 128 = 0) :
    iblk0 V c 7 ⟨t.val - 1, Nat.lt_of_le_of_lt (Nat.sub_le _ _) t.isLt⟩ = iblk0 V c 7 t := by
  have hf : (cfg0.win 7).fetch t = false := Bool.eq_false_iff.mpr fun hf => h ((fetch0_7 t).mp hf)
  have d : (cfg0.win 7).block.Idx → Elt F (cfg0.win 7).elt := iblk0 V c 7 t
  have e := (dat0 V c).before_unfetched_in 7 rfl t hf (fun _ => rfl) d
  rw [before0_7] at e
  rw [e]
  exact (after0_7 V c _).symm

/-- Away from the first token tile the dequantized gate and up weights are those of the point before. -/
theorem wguAt_pred (c : Dev nD) (t : Fin cfg0.N) (h : ¬t.val % 128 = 0) : wguAt V c ⟨t.val - 1, Nat.lt_of_le_of_lt (Nat.sub_le _ _) t.isLt⟩ = wguAt V c t := by
  unfold wguAt; rw [iblk0_4_pred V c t h, iblk0_5_pred V c t h]
/-- Away from the first token tile the dequantized down weights are those of the point before. -/
theorem wdbAt_pred (c : Dev nD) (t : Fin cfg0.N) (h : ¬t.val % 128 = 0) : wdbAt V c ⟨t.val - 1, Nat.lt_of_le_of_lt (Nat.sub_le _ _) t.isLt⟩ = wdbAt V c t := by
  unfold wdbAt; rw [iblk0_6_pred V c t h, iblk0_7_pred V c t h]

/-- Within a column block the weights' buffer holds the weights dequantized at its first tile. -/
theorem before0_9_B (c : Dev nD) (t : Fin cfg0.N) (h : ¬t.val % 128 = 0) (d) : (dat0 V c).before 9 t d = wguAt V c t := by
  rw [Dat.before_out_traj _ 9 rfl (fun _ _ => rfl) (fun t ht hi _ => ?_) t.val t rfl d,
    if_neg (by rw [fresh0_9, decide_eq_true_iff]; exact h), after0_9, wguAt_pred V c t h]
  have hi' : cfg0.idle 9 (grid0.coords t) = true := hi
  rw [idle0_9] at hi'
  rw [after0_9, after0_9, wguAt_pred V c t (by simpa using hi')]
/-- There the running sums are the point before's. -/
theorem before0_10_B (c : Dev nD) (t : Fin cfg0.N) (h : ¬t.val % 128 = 0) (d) :
    (dat0 V c).before 10 t d = dwguAt V c (t.val - 1) (Nat.lt_of_le_of_lt (Nat.sub_le _ _) t.isLt) := by
  have hN : t.val < 2432 := lt_of_lt_of_eq t.isLt (show cfg0.N = 2432 from N_0)
  rw [Dat.before_out_kept _ 10 rfl t (by omega) (Bool.eq_false_iff.mpr fun hf => by have := (flush0_10 _).mp hf; dsimp only at this; omega)
    (fun _ => rfl) (fun _ _ => rfl), after0_10]
/-- Away from the first token tile window 11 still holds the down weight sum of the point before. -/
theorem before0_11_B (c : Dev nD) (t : Fin cfg0.N) (h : ¬t.val % 128 = 0) (d) :
    (dat0 V c).before 11 t d = dwdAt V c (t.val - 1) (Nat.lt_of_le_of_lt (Nat.sub_le _ _) t.isLt) := by
  have hN : t.val < 2432 := lt_of_lt_of_eq t.isLt (show cfg0.N = 2432 from N_0)
  rw [Dat.before_out_kept _ 11 rfl t (by omega) (Bool.eq_false_iff.mpr fun hf => by have := (flush0_11 _).mp hf; dsimp only at this; omega)
    (fun _ => rfl) (fun _ _ => rfl), after0_11]

/-! ## The body's obligation -/

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))
/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ (dat0 V c).leavesExact 9 t
    ∗ owns (c : Thread nD τ) (st0_10 t) fullShare ((dat0 V c).after 10 t)
    ∗ owns (c : Thread nD τ) (st0_11 t) fullShare ((dat0 V c).after 11 t))

/-- At the first tile of a column block the body leaves the weights in their buffer. -/
theorem leaves9_A (c : Dev nD) (t : Fin cfg0.N) (h : t.val % 128 = 0) :
    (dat0 V c).leavesExact 9 t = owns (c : Thread nD τ) (st0_9 t) fullShare (wguAt V c t) := by
  have hi : cfg0.idle 9 (grid0.coords t) = false := by rw [idle0_9]; simpa using h
  unfold Dat.leavesExact; rw [hi, after0_9]
/-- Elsewhere it finds them there and leaves them, whether or not the buffer is written back. -/
theorem leaves9_B (c : Dev nD) (t : Fin cfg0.N) (h : ¬t.val % 128 = 0) :
    owns (c : Thread nD τ) (st0_9 t) fullShare (wguAt V c t) ⊢ (dat0 V c).leavesExact 9 t := by
  have hi : cfg0.idle 9 (grid0.coords t) = true := by rw [idle0_9]; simpa using h
  unfold Dat.leavesExact
  cases hf : (cfg0.win 9).flush t
  · rw [hi]
    dsimp only
    iintro H
    iexists (wguAt V c t)
    rw [before0_9_B V c t h]
    iexact H
  · rw [hi]
    dsimp only
    rw [after0_9]

set_option maxHeartbeats 4000000 in
/-- The body at any point, by its two cases. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS V c (t.val + 1) t.isLt from rfl, PhiS_pos V c _ _ (Nat.succ_ne_zero _)]
  rw [after0_0, after0_1, after0_2, after0_3, after0_4, after0_5, after0_6, after0_7, after0_8, after0_10, after0_11]
  rw [PhiS_castSucc V c t]
  by_cases h0 : t.val % 128 = 0
  · rw [leaves9_A V c t h0, dwguAt_A V c t h0, dwdAt_A V c t h0]
    by_cases hz : t.val = 0
    · rw [PhiS_zero V c _ _ hz, PhiA0_eq]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_A c (grid0.coords t) _ _ _ _ _ _ _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) (iblk0 V c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexact HS2
      iintro ⟨H0, H1, H2, H3, H4, H5, H6, H7, H8, H9, H10, H11, HS0, HS1, HS2⟩
      isplitl [HS0 HS1 HS2 HR Hg]
      · isplitl [HS0 HS1 HS2 HR]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_pos V c _ _ hz]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (body_A c (grid0.coords t) _ _ _ _ _ _ _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) (iblk0 V c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      isplitl [HS2]; · iexists _; iexact HS2
      iintro ⟨H0, H1, H2, H3, H4, H5, H6, H7, H8, H9, H10, H11, HS0, HS1, HS2⟩
      isplitl [HS0 HS1 HS2 HR Hg]
      · isplitl [HS0 HS1 HS2 HR]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · have hz : t.val ≠ 0 := fun h => h0 (by rw [h])
    rw [PhiS_pos V c _ _ hz, dwguAt_B V c t h0, dwdAt_B V c t h0, wdbAt_pred V c t h0]
    simp only [before0_9_B V c t h0, before0_10_B V c t h0, before0_11_B V c t h0]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (body_B c (grid0.coords t) _ _ _ _ _ _ _ _ _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, H7, H8, H9, H10, H11, HS0, HS1, HS2⟩
    isplitl [HS0 HS1 HS2 HR Hg]
    · isplitl [HS0 HS1 HS2 HR]
      · isplitl [HS0]; · iexact HS0
        isplitl [HS1]; · iexact HS1
        isplitl [HS2]; · iexact HS2
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (leaves9_B V c t h0); iexact H9
    isplitl [H10]; · iexact H10
    iexact H11

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The pipeline's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The region's scoped rest starts the invariant. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the scoped rest back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 2432 := N_0; omega), PhiA0_eq]
  iintro ⟨⟨HS0, HS1, HS2, HR⟩, Hg⟩
  isplitl [HS0 HS1 HS2 HR]
  · isplitl [HS0]
    · iexact HS0
    isplitl [HS1]
    · iexact HS1
    isplitl [HS2]; · iexists _; iexact HS2
    iexact HR
  iexact Hg

end Cert.KernelIdeal.Hand

end
-- ==== Proof.KernelIdeal.Region1.lean ====
/- The second kernel on the pipeline: one grid point multiplies a tile of 512 tokens' gradients with a block of 512 weight rows. -/
module

public import proofs.«01_k».proof.Proof.KernelIdeal.Spec
public import proofs.«01_k».proof.Proof.Gen.KernelIdeal.Points
public import Idealize.ShloMosaic.Lib.Pipeline.FrameBody

@[expose] public section

-- the structural walk over rectangles of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of pre-activation gradients, or of weights, as a rectangle. -/
abbrev r1_0 : Rect S512x9728 := Rect.unit (s := S512x9728) ![0, 0] S512x9728.size inb_S512x9728_S512x9728_0_0
/-- The whole output block as a rectangle. -/
abbrev r1_1 : Rect S512x512 := Rect.unit (s := S512x512) ![0, 0] S512x512.size inb_S512x512_S512x512_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S512x9728 .bf16) (x1 : Vec F S512x9728 .bf16) : Vec F S512x512 .bf16 :=
  View.canon [⟨r1_1, k1_pay1 (View.ld x0 r1_0) (View.ld x1 r1_0)⟩]

/-- Its stores tile the buffer (checked by evaluation), so they cover it. -/
theorem cover1_2 (p0 : Vec F S512x512 .bf16) (y : S512x512.Idx) :
    ∃ pc ∈ ([⟨r1_1, p0⟩] : List (View.Piece (Elt F) S512x512 .bf16)), y ∈ pc.1.set :=
  View.cover_of_tiled [⟨r1_1, p0⟩] S512x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S512x9728 .bf16) (harg2 : arg2.IsWhole) (arg3 : Memref sig .tc .vmem S512x9728 .bf16) (harg3 : arg3.IsWhole) (arg4 : Memref sig .tc .vmem S512x512 .bf16) (harg4 : arg4.IsWhole)
    (x0 : Vec F S512x9728 .bf16) (x1 : Vec F S512x9728 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_dx i arg2 harg2 arg3 harg3 arg4 harg4) K := by
  simp only [cc1_dx_eq_skeleton]; unfold cc1_dx_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- The body leaves its weights block as it was. -/
theorem after1_1 (c : Dev nD) (t : Fin cfg1.N) : (dat1 V c).after 1 t = iblk1 V c 1 t := by dsimp only [dat1]
/-- The body leaves the product of its two blocks in the output window. -/
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Before the body the weights window holds its block. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdeal.Run.lean ====
/- The program as a run of its segments: host operations, the two kernels, host operations; what every buffer holds at each boundary, and the frame. -/
module

public import proofs.«01_k».proof.Proof.KernelIdeal.Region0
public import proofs.«01_k».proof.Proof.KernelIdeal.Region1
public import Idealize.ShloMosaic.Lib.Pipeline.RegionsLoop
public import Idealize.ShloMosaic.Lib.Pipeline.FrameSuffix

@[expose] public section

-- the structural walk over rectangles of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14]
/-- The host operations before the first kernel write the arrays listed. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v17, main_v18, main_v19, main_v20]
/-- The host operations after the second kernel write the arrays listed. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At the start every argument is as launched. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Before the first kernel every argument is as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
/-- After the first kernel each of its windows' arrays holds what the run of its points left. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- The first kernel leaves every array that is not one of its windows' as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- After the first kernel every argument is as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The contents after the first kernel agree with those before it off its windows. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
/-- After the second kernel each of its windows' arrays holds what the run of its points left. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- The second kernel leaves every array that is not one of its windows' as it was. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- After the second kernel every argument is as launched. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
/-- The contents after the second kernel agree with those before it off its windows. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- At the end every argument is as launched. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

/-- At the end argument 0 is as launched. -/
theorem W4_main_arg0 (c : Dev nD) : W4 m ρ c (Proc.devRef .tc main_arg0) = m ((c : Thread nD τ).loc main_arg0) :=
  W4_args m ρ c main_arg0 (by decide)
/-- At the end argument 1 is as launched. -/
theorem W4_main_arg1 (c : Dev nD) : W4 m ρ c (Proc.devRef .tc main_arg1) = m ((c : Thread nD τ).loc main_arg1) :=
  W4_args m ρ c main_arg1 (by decide)
/-- At the end argument 2 is as launched. -/
theorem W4_main_arg2 (c : Dev nD) : W4 m ρ c (Proc.devRef .tc main_arg2) = m ((c : Thread nD τ).loc main_arg2) :=
  W4_args m ρ c main_arg2 (by decide)
/-- At the end argument 3 is as launched. -/
theorem W4_main_arg3 (c : Dev nD) : W4 m ρ c (Proc.devRef .tc main_arg3) = m ((c : Thread nD τ).loc main_arg3) :=
  W4_args m ρ c main_arg3 (by decide)
/-- At the end argument 4 is as launched. -/
theorem W4_main_arg4 (c : Dev nD) : W4 m ρ c (Proc.devRef .tc main_arg4) = m ((c : Thread nD τ).loc main_arg4) :=
  W4_args m ρ c main_arg4 (by decide)
/-- At the end argument 5 is as launched. -/
theorem W4_main_arg5 (c : Dev nD) : W4 m ρ c (Proc.devRef .tc main_arg5) = m ((c : Thread nD τ).loc main_arg5) :=
  W4_args m ρ c main_arg5 (by decide)
/-- At the end argument 6 is as launched. -/
theorem W4_main_arg6 (c : Dev nD) : W4 m ρ c (Proc.devRef .tc main_arg6) = m ((c : Thread nD τ).loc main_arg6) :=
  W4_args m ρ c main_arg6 (by decide)
/-- At the end argument 7 is as launched. -/
theorem W4_main_arg7 (c : Dev nD) : W4 m ρ c (Proc.devRef .tc main_arg7) = m ((c : Thread nD τ).loc main_arg7) :=
  W4_args m ρ c main_arg7 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No loop needs a variant. -/
abbrev 𝒱₀ : Variants := Variants.none
/-- No core owes another anything: no level is assigned. -/
abbrev L : GSem nD τ sig → Finset Unit := fun _ => ∅
/-- No wait needs a level. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole program: from any memory with zero counters every fair execution ends, with every unscoped buffer at the last
    boundary's contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The argument arrays end as launched and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c),
       (h.1 c _ (mem_uc main_arg7 (by decide))).trans (W4_main_arg7 m ρ c)⟩, h.2⟩) (run m ρ)

end Cert.KernelIdeal.Hand

end
-- ==== Proof.Value.Math.lean ====
/- The mathematics both programs compute, on extended reals: a gated feed-forward layer's backward pass over 65536 tokens,
   3584 model columns and 4864 hidden columns, from the dequantized operands as plain functions of their coordinates. -/
module

public import Idealize.ShloMosaic.PureOps.Ideal
public import Idealize.ShloMosaic.Lib.Pointwise.Index

@[expose] public section

noncomputable section

namespace Cert.Val

open Idealize.ShloMosaic

/-- The hidden value: the gate through its sigmoid, times the up value. -/
def hid (g u : EReal) : EReal := g * Ideal.logistic g * u
/-- The gradient of the gate value, from the gradient of the hidden value. -/
def dGate (d g u : EReal) : EReal := d * u * Ideal.logistic g * (1 + g * (1 - Ideal.logistic g))
/-- The gradient of the up value. -/
def dUp (d g : EReal) : EReal := d * g * Ideal.logistic g

/-- Token activations (or output gradients) from codes and scales: token `n` is position `n % 4096` of sequence `n / 4096`, and
    128 model columns share a scale. -/
def tok (a : (⟨3, ![16, 4096, 3584]⟩ : Shape).Idx → EReal) (s : (⟨3, ![16, 4096, 28]⟩ : Shape).Idx → EReal)
    (n : Fin 65536) (j : Fin 3584) : EReal :=
  a (ix3 (⟨n.val / 4096, by omega⟩ : Fin 16) (⟨n.val % 4096, by omega⟩ : Fin 4096) j)
    * s (ix3 (⟨n.val / 4096, by omega⟩ : Fin 16) (⟨n.val % 4096, by omega⟩ : Fin 4096) (⟨j.val / 128, by omega⟩ : Fin 28))
/-- The gate and up weights from codes and scales: one scale per 128 by 128 block of each half. -/
def wgu (a : (⟨3, ![3584, 2, 4864]⟩ : Shape).Idx → EReal) (s : (⟨3, ![28, 2, 38]⟩ : Shape).Idx → EReal)
    (j : Fin 3584) (k : Fin 2) (f : Fin 4864) : EReal :=
  a (ix3 j k f) * s (ix3 (⟨j.val / 128, by omega⟩ : Fin 28) k (⟨f.val / 128, by omega⟩ : Fin 38))
/-- The down weights from codes and scales: one scale per 128 by 128 block. -/
def wdown (a : (⟨2, ![4864, 3584]⟩ : Shape).Idx → EReal) (s : (⟨2, ![38, 28]⟩ : Shape).Idx → EReal)
    (f : Fin 4864) (j : Fin 3584) : EReal :=
  a (ix2 f j) * s (ix2 (⟨f.val / 128, by omega⟩ : Fin 38) (⟨j.val / 128, by omega⟩ : Fin 28))

variable (x y : Fin 65536 → Fin 3584 → EReal) (wg : Fin 3584 → Fin 2 → Fin 4864 → EReal) (wd : Fin 4864 → Fin 3584 → EReal)

/-- The gate (`k = 0`) and up (`k = 1`) values of token `n` at hidden column `f`. -/
def gu (n : Fin 65536) (k : Fin 2) (f : Fin 4864) : EReal := ∑ j : Fin 3584, x n j * wg j k f
/-- The gradient of the hidden value of token `n` at hidden column `f`. -/
def dh (n : Fin 65536) (f : Fin 4864) : EReal := ∑ j : Fin 3584, y n j * wd f j
/-- The hidden value of token `n` at hidden column `f`. -/
def hb (n : Fin 65536) (f : Fin 4864) : EReal := hid (gu x wg n 0 f) (gu x wg n 1 f)
/-- The gradients of the gate (`k = 0`) and up (`k = 1`) values of token `n` at hidden column `f`. -/
def dgu (n : Fin 65536) (k : Fin 2) (f : Fin 4864) : EReal :=
  if k = 0 then dGate (dh y wd n f) (gu x wg n 0 f) (gu x wg n 1 f) else dUp (dh y wd n f) (gu x wg n 0 f)
/-- The gradient of the gate and up weights. -/
def dwgu (j : Fin 3584) (k : Fin 2) (f : Fin 4864) : EReal := ∑ n : Fin 65536, x n j * dgu x y wg wd n k f
/-- The gradient of the down weights. -/
def dwd (f : Fin 4864) (j : Fin 3584) : EReal := ∑ n : Fin 65536, hb x wg n f * y n j
/-- The gradient of the input of token `n` at model column `j`. -/
def dx (n : Fin 65536) (j : Fin 3584) : EReal := ∑ f : Fin 4864, ∑ k : Fin 2, dgu x y wg wd n k f * wg j k f

/-- The token at position `p` of sequence `b`. -/
def tokenOf (b : Fin 16) (p : Fin 4096) : Fin 65536 := ⟨b.val * 4096 + p.val, by omega⟩

end Cert.Val

end
-- ==== Proof.Value.Point.lean ====
/- What one grid point of the first kernel computes, read at an element, on extended reals: the dequantized blocks are the
   operands' rows and columns the point covers, so its results are the layer's backward pass at those coordinates. -/
module

public import proofs.«01_k».proof.Proof.KernelIdeal.Spec
public import proofs.«01_k».proof.Proof.Value.Math
public import Idealize.ShloMosaic.Lib.Pipeline.ValueKit
public import Idealize.ShloMosaic.Lib.Pointwise.Tactic
public import Idealize.ShloMosaic.Lib.Pointwise.Contract

@[expose] public section

set_option maxRecDepth 16384

noncomputable section

namespace Cert.KernelIdeal.Hand

open Idealize.ShloMosaic Idealize.ShloMosaic.TcCoe Idealize.ShloMosaic.Tactic
open Cert.KernelIdeal.Gen

/-- The product of the token block and the gate and up block, at an element. -/
theorem pay117_apply (x : Vec Ideal S512x3584 .bf16) (w : Vec Ideal S3584x512 .bf16) (r l : Fin 512) :
    k0_pay117 x w (ix2 r l) = ∑ j : Fin 3584, x (ix2 r j) * w (ix2 j l) := by
  unfold k0_pay117
  pointwise

/-- The gate half of that product. -/
theorem pay118_apply (x : Vec Ideal S512x3584 .bf16) (w : Vec Ideal S3584x512 .bf16) (r : Fin 512) (q : Fin 256) :
    k0_pay118 x w (ix2 r q) = ∑ j : Fin 3584, x (ix2 r j) * w (ix2 j ⟨q.val, by omega⟩) := by
  unfold k0_pay118 k0_pay117
  pointwise

/-- The up half of that product. -/
theorem pay119_apply (x : Vec Ideal S512x3584 .bf16) (w : Vec Ideal S3584x512 .bf16) (r : Fin 512) (q : Fin 256) :
    k0_pay119 x w (ix2 r q) = ∑ j : Fin 3584, x (ix2 r j) * w (ix2 j ⟨256 + q.val, by omega⟩) := by
  unfold k0_pay119 k0_pay117
  pointwise

/-- The hidden activations of a point, at an element. -/
theorem pay121_apply (x : Vec Ideal S512x3584 .bf16) (w : Vec Ideal S3584x512 .bf16) (r : Fin 512) (q : Fin 256) :
    k0_pay121 x w (ix2 r q) = Val.hid (k0_pay118 x w (ix2 r q)) (k0_pay119 x w (ix2 r q)) := by
  unfold k0_pay121 k0_pay120 Val.hid
  pointwise

/-- The pre-activation gradients of a point, at an element. -/
theorem pay122_apply (x y : Vec Ideal S512x3584 .bf16) (w : Vec Ideal S3584x512 .bf16) (d : Vec Ideal S256x3584 .bf16) (r : Fin 512) (k : Fin 2) (q : Fin 256) :
    k0_pay122 x w y d (ix2 r ⟨k.val * 256 + q.val, by omega⟩)
      = if k = 0 then Val.dGate (∑ j : Fin 3584, y (ix2 r j) * d (ix2 q j)) (k0_pay118 x w (ix2 r q)) (k0_pay119 x w (ix2 r q))
        else Val.dUp (∑ j : Fin 3584, y (ix2 r j) * d (ix2 q j)) (k0_pay118 x w (ix2 r q)) := by
  unfold k0_pay122 k0_pay120 Val.dGate Val.dUp
  pointwise
  obtain ⟨k, hk⟩ := k
  obtain rfl | rfl : k = 0 ∨ k = 1 := by omega
  · simp
  · simp [Nat.add_sub_cancel_left]

variable (X Y : Fin 65536 → Fin 3584 → EReal) (WG : Fin 3584 → Fin 2 → Fin 4864 → EReal) (WD : Fin 4864 → Fin 3584 → EReal)

/-- Blocks that hold the operands' rows `n ·` and hidden columns `f ·`: the gradient block holds `Val.dgu` there. -/
theorem ptDgu_apply (x y : Vec Ideal S512x3584 .bf16) (w : Vec Ideal S3584x512 .bf16) (d : Vec Ideal S256x3584 .bf16)
    (n : Fin 512 → Fin 65536) (f : Fin 256 → Fin 4864) (hx : ∀ r j, x (ix2 r j) = X (n r) j) (hy : ∀ r j, y (ix2 r j) = Y (n r) j)
    (hw : ∀ j (k : Fin 2) (q : Fin 256), w (ix2 j ⟨k.val * 256 + q.val, by omega⟩) = WG j k (f q)) (hd : ∀ q j, d (ix2 q j) = WD (f q) j)
    (r : Fin 512) (k : Fin 2) (q : Fin 256) :
    ptDgu x w y d (ix2 r ⟨k.val * 256 + q.val, by omega⟩) = Val.dgu X Y WG WD (n r) k (f q) := by
  have h0 := fun j => hw j 0 q
  have h1 := fun j => hw j 1 q
  simp only [Fin.val_zero, Fin.val_one, Nat.zero_mul, Nat.one_mul, Nat.zero_add] at h0 h1
  unfold ptDgu
  rw [pay122_apply, pay118_apply, pay119_apply]
  simp only [hx, hy, hd, h0, h1]
  rfl

/-- Under the same reading the hidden block holds `Val.hb`. -/
theorem hidden_apply (x : Vec Ideal S512x3584 .bf16) (w : Vec Ideal S3584x512 .bf16)
    (n : Fin 512 → Fin 65536) (f : Fin 256 → Fin 4864) (hx : ∀ r j, x (ix2 r j) = X (n r) j)
    (hw : ∀ j (k : Fin 2) (q : Fin 256), w (ix2 j ⟨k.val * 256 + q.val, by omega⟩) = WG j k (f q)) (r : Fin 512) (q : Fin 256) :
    k0_pay121 x w (ix2 r q) = Val.hb X WG (n r) (f q) := by
  have h0 := fun j => hw j 0 q
  have h1 := fun j => hw j 1 q
  simp only [Fin.val_zero, Fin.val_one, Nat.zero_mul, Nat.one_mul, Nat.zero_add] at h0 h1
  rw [pay121_apply, pay118_apply, pay119_apply]
  simp only [hx, h0, h1]
  rfl

/-- What a point adds to the gate and up weight sum, at an element. -/
theorem ptDwgu_apply (x y : Vec Ideal S512x3584 .bf16) (w : Vec Ideal S3584x512 .bf16) (d : Vec Ideal S256x3584 .bf16)
    (acc : Vec Ideal S3584x512 .f32) (j : Fin 3584) (l : Fin 512) :
    ptDwgu x w y d acc (ix2 j l) = acc (ix2 j l) + ∑ r : Fin 512, x (ix2 r j) * ptDgu x w y d (ix2 r l) := by
  unfold ptDwgu k0_pay123 ptDgu
  generalize k0_pay122 x w y d = z
  pointwise

/-- What a point adds to the down weight sum, at an element. -/
theorem ptDwd_apply (x y : Vec Ideal S512x3584 .bf16) (w : Vec Ideal S3584x512 .bf16)
    (acc : Vec Ideal S256x3584 .f32) (q : Fin 256) (j : Fin 3584) :
    ptDwd x w y acc (ix2 q j) = acc (ix2 q j) + ∑ r : Fin 512, k0_pay121 x w (ix2 r q) * y (ix2 r j) := by
  unfold ptDwd k0_pay1 k0_pay124
  generalize k0_pay121 x w = z
  pointwise

end Cert.KernelIdeal.Hand

end
-- ==== Proof.Value.Index.lean ====
/- The block index of every window at every grid point, for both kernels: the first runs its 128 token tiles inside its 19
   blocks of hidden columns, the second its 128 token tiles inside its 7 blocks of model columns. -/
module

public import proofs.«01_k».proof.Proof.Gen.KernelIdeal.Points

@[expose] public section

set_option maxRecDepth 16384

noncomputable section

namespace Cert.KernelIdeal.Hand

open Idealize.ShloMosaic Idealize.ShloMosaic.TcCoe
open Cert.KernelIdeal.Gen

/-- The block of window 0 of the first kernel (token codes) at a point. -/
theorem idx0 : ∀ t : Fin cfg0.N, win0_0.index t = ![t.val % 128, 0] := (by decide +kernel : ∀ t : Fin grid0.N, _)
/-- The block of window 1 of the first kernel (token scales) at a point. -/
theorem idx1 : ∀ t : Fin cfg0.N, win0_1.index t = ![t.val % 128, 0] := (by decide +kernel : ∀ t : Fin grid0.N, _)
/-- The block of window 2 of the first kernel (upstream gradient codes) at a point. -/
theorem idx2 : ∀ t : Fin cfg0.N, win0_2.index t = ![t.val % 128, 0] := (by decide +kernel : ∀ t : Fin grid0.N, _)
/-- The block of window 3 of the first kernel (upstream gradient scales) at a point. -/
theorem idx3 : ∀ t : Fin cfg0.N, win0_3.index t = ![t.val % 128, 0] := (by decide +kernel : ∀ t : Fin grid0.N, _)
/-- The block of window 4 of the first kernel (gate and up codes) at a point. -/
theorem idx4 : ∀ t : Fin cfg0.N, win0_4.index t = ![0, t.val / 128] := (by decide +kernel : ∀ t : Fin grid0.N, _)
/-- The block of window 5 of the first kernel (gate and up scales) at a point. -/
theorem idx5 : ∀ t : Fin cfg0.N, win0_5.index t = ![0, t.val / 128] := (by decide +kernel : ∀ t : Fin grid0.N, _)
/-- The block of window 6 of the first kernel (down codes) at a point. -/
theorem idx6 : ∀ t : Fin cfg0.N, win0_6.index t = ![t.val / 128, 0] := (by decide +kernel : ∀ t : Fin grid0.N, _)
/-- The block of window 7 of the first kernel (down scales) at a point. -/
theorem idx7 : ∀ t : Fin cfg0.N, win0_7.index t = ![t.val / 128, 0, 0] := (by decide +kernel : ∀ t : Fin grid0.N, _)
/-- The block of window 8 of the first kernel (pre-activation gradients) at a point. -/
theorem idx8 : ∀ t : Fin cfg0.N, win0_8.index t = ![t.val % 128, t.val / 128] := (by decide +kernel : ∀ t : Fin grid0.N, _)
/-- The block of window 9 of the first kernel (dequantized gate and up weights) at a point. -/
theorem idx9 : ∀ t : Fin cfg0.N, win0_9.index t = ![0, t.val / 128] := (by decide +kernel : ∀ t : Fin grid0.N, _)
/-- The block of window 10 of the first kernel (gate and up weight gradient) at a point. -/
theorem idx10 : ∀ t : Fin cfg0.N, win0_10.index t = ![0, t.val / 128] := (by decide +kernel : ∀ t : Fin grid0.N, _)
/-- The block of window 11 of the first kernel (down weight gradient) at a point. -/
theorem idx11 : ∀ t : Fin cfg0.N, win0_11.index t = ![t.val / 128, 0] := (by decide +kernel : ∀ t : Fin grid0.N, _)

/-- The block of window 0 of the second kernel (pre-activation gradients) at a point. -/
theorem jdx0 : ∀ t : Fin cfg1.N, win1_0.index t = ![t.val % 128, 0] := (by decide +kernel : ∀ t : Fin grid1.N, _)
/-- The block of window 1 of the second kernel (weights) at a point. -/
theorem jdx1 : ∀ t : Fin cfg1.N, win1_1.index t = ![t.val / 128, 0] := (by decide +kernel : ∀ t : Fin grid1.N, _)
/-- The block of window 2 of the second kernel (token gradient) at a point. -/
theorem jdx2 : ∀ t : Fin cfg1.N, win1_2.index t = ![t.val % 128, t.val / 128] := (by decide +kernel : ∀ t : Fin grid1.N, _)

end Cert.KernelIdeal.Hand

end
-- ==== Proof.Value.Blocks.lean ====
/- The first kernel's blocks on extended reals, read at an element: which rows and columns of the operands a grid point's
   dequantized blocks hold, in terms of the arrays the kernel is launched on. -/
module

public import proofs.«01_k».proof.Proof.KernelIdeal.Region0
public import proofs.«01_k».proof.Proof.Value.Point
public import proofs.«01_k».proof.Proof.Value.Index
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal.Gen

variable (V : (c : Dev nD) → (b : Ref sig .tc) → Buf (Elt Ideal) ((c : Thread nD τ).loc b)) (c : Dev nD)

/-- The first kernel has 2432 grid points. -/
theorem lt0 (t : Fin cfg0.N) : t.val < 2432 := t.isLt

/-- The token row `r` of point `t`'s token tile. -/
def rowOf (t : Fin cfg0.N) (r : Fin 512) : Fin 65536 := ⟨t.val % 128 * 512 + r.val, by omega⟩
/-- The hidden column `q` of point `t`'s block of hidden columns. -/
def hidOf (t : Fin cfg0.N) (q : Fin 256) : Fin 4864 := ⟨t.val / 128 * 256 + q.val, by have := lt0 t; omega⟩
/-- Where the interleaved weight array keeps the gate (`k = 0`) or up (`k = 1`) column `f`. -/
def colOf (k : Fin 2) (f : Fin 4864) : Fin 9728 := ⟨f.val / 256 * 512 + k.val * 256 + f.val % 256, by omega⟩

/-- Token activations (or output gradients), dequantized: a code times its scale, one scale per 128 model columns. -/
def tokOf (a : S65536x3584.Idx → EReal) (s : S65536x28.Idx → EReal) (n : Fin 65536) (j : Fin 3584) : EReal :=
  a (ix2 n j) * s (ix2 n ⟨j.val / 128, by omega⟩)
/-- The gate and up weights, dequantized from their interleaved arrays. -/
def guOf (a : S3584x9728.Idx → EReal) (s : S28x9728.Idx → EReal) (j : Fin 3584) (k : Fin 2) (f : Fin 4864) : EReal :=
  a (ix2 j (colOf k f)) * s (ix2 ⟨j.val / 128, by omega⟩ (colOf k f))
/-- The down weights, dequantized: the scales are split by block of 256 hidden columns. -/
def downOf (a : S4864x3584.Idx → EReal) (s : S19x2x3584.Idx → EReal) (f : Fin 4864) (j : Fin 3584) : EReal :=
  a (ix2 f j) * s (ix3 ⟨f.val / 256, by omega⟩ ⟨f.val % 256 / 128, by omega⟩ j)

/-- The operands read off the arrays the kernel is launched on. -/
abbrev xv := tokOf (V c main_v11) (V c main_v12)
/-- The upstream gradients the first kernel works on, dequantized. -/
abbrev yv := tokOf (V c main_v13) (V c main_v14)
/-- The gate and up weights it works on, dequantized. -/
abbrev wgv := guOf (V c main_v2) (V c main_v7)
/-- The down weights it works on, dequantized. -/
abbrev wdv := downOf (V c main_arg6) (V c main_v10)

/-- The block of token codes at an element. -/
theorem iblk0_0_apply (t : Fin cfg0.N) (r : Fin 512) (j : Fin 3584) :
    iblk0 V c 0 t (ix2 r j) = V c main_v11 (ix2 (rowOf t r) j) := by
  blk_simp [iblk0]
  refine congrArg (V c main_v11) ?_
  blk_ext [idx0 t, rowOf]

/-- The block of token scales at an element. -/
theorem iblk0_1_apply (t : Fin cfg0.N) (r : Fin 512) (j : Fin 28) :
    iblk0 V c 1 t (ix2 r j) = V c main_v12 (ix2 (rowOf t r) j) := by
  blk_simp [iblk0]
  refine congrArg (V c main_v12) ?_
  blk_ext [idx1 t, rowOf]

/-- The block of upstream gradient codes at an element. -/
theorem iblk0_2_apply (t : Fin cfg0.N) (r : Fin 512) (j : Fin 3584) :
    iblk0 V c 2 t (ix2 r j) = V c main_v13 (ix2 (rowOf t r) j) := by
  blk_simp [iblk0]
  refine congrArg (V c main_v13) ?_
  blk_ext [idx2 t, rowOf]

/-- The block of upstream gradient scales at an element. -/
theorem iblk0_3_apply (t : Fin cfg0.N) (r : Fin 512) (j : Fin 28) :
    iblk0 V c 3 t (ix2 r j) = V c main_v14 (ix2 (rowOf t r) j) := by
  blk_simp [iblk0]
  refine congrArg (V c main_v14) ?_
  blk_ext [idx3 t, rowOf]

/-- The block of gate and up codes at an element. -/
theorem iblk0_4_apply (t : Fin cfg0.N) (j : Fin 3584) (k : Fin 2) (q : Fin 256) :
    iblk0 V c 4 t (ix2 j ⟨k.val * 256 + q.val, by omega⟩) = V c main_v2 (ix2 j (colOf k (hidOf t q))) := by
  blk_simp [iblk0]
  refine congrArg (V c main_v2) ?_
  blk_ext [idx4 t, colOf, hidOf]

/-- The block of gate and up scales at an element. -/
theorem iblk0_5_apply (t : Fin cfg0.N) (j : Fin 28) (k : Fin 2) (q : Fin 256) :
    iblk0 V c 5 t (ix2 j ⟨k.val * 256 + q.val, by omega⟩) = V c main_v7 (ix2 j (colOf k (hidOf t q))) := by
  blk_simp [iblk0]
  refine congrArg (V c main_v7) ?_
  blk_ext [idx5 t, colOf, hidOf]

/-- The block of down codes at an element. -/
theorem iblk0_6_apply (t : Fin cfg0.N) (q : Fin 256) (j : Fin 3584) :
    iblk0 V c 6 t (ix2 q j) = V c main_arg6 (ix2 (hidOf t q) j) := by
  blk_simp [iblk0]
  refine congrArg (V c main_arg6) ?_
  blk_ext [idx6 t, hidOf]

/-- The block of down scales at an element. -/
theorem iblk0_7_apply (t : Fin cfg0.N) (b : Fin 2) (j : Fin 3584) :
    iblk0 V c 7 t (ix3 0 b j) = V c main_v10 (ix3 ⟨t.val / 128, by have := lt0 t; omega⟩ b j) := by
  blk_simp [iblk0]
  refine congrArg (V c main_v10) ?_
  blk_ext [idx7 t, lt0]

/-- The dequantized token block at an element. -/
theorem xbAt_apply (t : Fin cfg0.N) (r : Fin 512) (j : Fin 3584) : xbAt V c t (ix2 r j) = xv V c (rowOf t r) j := by
  unfold xbAt deqCol xv tokOf
  simp only [← iblk0_0_apply, ← iblk0_1_apply]
  pointwise
  rfl

/-- The dequantized upstream gradient block at an element. -/
theorem dybAt_apply (t : Fin cfg0.N) (r : Fin 512) (j : Fin 3584) : dybAt V c t (ix2 r j) = yv V c (rowOf t r) j := by
  unfold dybAt deqCol yv tokOf
  simp only [← iblk0_2_apply, ← iblk0_3_apply]
  pointwise
  rfl

/-- The dequantized gate and up block at an element. -/
theorem wguAt_apply (t : Fin cfg0.N) (j : Fin 3584) (k : Fin 2) (q : Fin 256) :
    wguAt V c t (ix2 j ⟨k.val * 256 + q.val, by omega⟩) = wgv V c j k (hidOf t q) := by
  unfold wguAt deqRow wgv guOf
  simp only [← iblk0_4_apply, ← iblk0_5_apply]
  pointwise
  rfl

/-- The dequantized down block at an element. -/
theorem wdbAt_apply (t : Fin cfg0.N) (q : Fin 256) (j : Fin 3584) : wdbAt V c t (ix2 q j) = wdv V c (hidOf t q) j := by
  have e : (ix3 (⟨t.val / 128, by have := lt0 t; omega⟩ : Fin 19) (⟨q.val / 128, by omega⟩ : Fin 2) j)
      = ix3 ⟨(hidOf t q).val / 256, by omega⟩ ⟨(hidOf t q).val % 256 / 128, by omega⟩ j := by
    have : (hidOf t q).val = t.val / 128 * 256 + q.val := rfl
    congr 1 <;> apply Fin.ext <;> simp only <;> omega
  exact congrArg₂ (fun a b : EReal => a * b) (iblk0_6_apply V c t q j)
    ((iblk0_7_apply V c t ⟨q.val / 128, by omega⟩ j).trans (congrArg (V c main_v10) e))

/-- What a point leaves in the gradient block: the gradients of its tokens at its hidden columns. -/
theorem dguAt_apply (t : Fin cfg0.N) (r : Fin 512) (k : Fin 2) (q : Fin 256) :
    ptDgu (xbAt V c t) (wguAt V c t) (dybAt V c t) (wdbAt V c t) (ix2 r ⟨k.val * 256 + q.val, by omega⟩)
      = Val.dgu (xv V c) (yv V c) (wgv V c) (wdv V c) (rowOf t r) k (hidOf t q) :=
  ptDgu_apply _ _ _ _ _ _ _ _ (rowOf t) (hidOf t) (xbAt_apply V c t) (dybAt_apply V c t) (wguAt_apply V c t) (wdbAt_apply V c t) r k q

/-- The hidden block of a point: the hidden values of its tokens at its hidden columns. -/
theorem hbAt_apply (t : Fin cfg0.N) (r : Fin 512) (q : Fin 256) :
    k0_pay121 (xbAt V c t) (wguAt V c t) (ix2 r q) = Val.hb (xv V c) (wgv V c) (rowOf t r) (hidOf t q) :=
  hidden_apply _ _ _ _ (rowOf t) (hidOf t) (xbAt_apply V c t) (wguAt_apply V c t) r q

end Cert.KernelIdeal.Hand

end
-- ==== Proof.Value.Sums.lean ====
/- The first kernel's two running sums on extended reals: at the last token tile of a block of hidden columns each holds
   the sum over all 65536 tokens. -/
module

public import proofs.«01_k».proof.Proof.Value.Blocks
public import Idealize.ShloMosaic.Lib.Pipeline.ValueKit.Acc

@[expose] public section

set_option maxRecDepth 16384

noncomputable section

namespace Cert.KernelIdeal.Hand

open Idealize.ShloMosaic Idealize.ShloMosaic.TcCoe Idealize.ShloMosaic.Tactic
open Cert.KernelIdeal.Gen

variable (V : (c : Dev nD) → (b : Ref sig .tc) → Buf (Elt Ideal) ((c : Thread nD τ).loc b)) (c : Dev nD)

/-- The gate and up weight sum starts from zero. -/
theorem pay38_apply (i : S3584x512.Idx) : (k0_pay38 (F := Ideal) : Vec Ideal S3584x512 .f32) i = (0 : EReal) := by
  unfold k0_pay38
  pointwise
/-- The down weight sum starts from zero. -/
theorem pay39_apply (i : S256x3584.Idx) : (k0_pay39 (F := Ideal) : Vec Ideal S256x3584 .f32) i = (0 : EReal) := by
  unfold k0_pay39
  pointwise

/-- The hidden column and the kind of a block's column `l`. -/
def kOf512 (l : Fin 512) : Fin 2 := ⟨l.val / 256, by omega⟩
/-- The hidden column of a block's column `l`, within its kind. -/
def qOf512 (l : Fin 512) : Fin 256 := ⟨l.val % 256, by omega⟩

/-- What point `t` adds to the gate and up weight gradient. -/
def dwguTerm (t : Fin cfg0.N) (i : Fin 3584 × Fin 512) : EReal :=
  ∑ r : Fin 512, xv V c (rowOf t r) i.1 * Val.dgu (xv V c) (yv V c) (wgv V c) (wdv V c) (rowOf t r) (kOf512 i.2) (hidOf t (qOf512 i.2))
/-- What point `t` adds to the down weight gradient. -/
def dwdTerm (t : Fin cfg0.N) (i : Fin 256 × Fin 3584) : EReal :=
  ∑ r : Fin 512, Val.hb (xv V c) (wgv V c) (rowOf t r) (hidOf t i.1) * yv V c (rowOf t r) i.2

/-- A point's pre-activation gradients are the layer's, read at a block column. -/
theorem dguAt_apply' (t : Fin cfg0.N) (r l : Fin 512) :
    ptDgu (xbAt V c t) (wguAt V c t) (dybAt V c t) (wdbAt V c t) (ix2 r l)
      = Val.dgu (xv V c) (yv V c) (wgv V c) (wdv V c) (rowOf t r) (kOf512 l) (hidOf t (qOf512 l)) := by
  rw [← dguAt_apply]
  exact congrArg (fun z => ptDgu (xbAt V c t) (wguAt V c t) (dybAt V c t) (wdbAt V c t) (ix2 r z)) (Fin.ext (Nat.div_add_mod' _ _).symm)

/-- A point adds its term to the gate and up weight sum. -/
theorem ptDwgu_at (t : Fin cfg0.N) (acc : Vec Ideal S3584x512 .f32) (i : Fin 3584 × Fin 512) :
    ptDwgu (xbAt V c t) (wguAt V c t) (dybAt V c t) (wdbAt V c t) acc (ix2 i.1 i.2) = (acc (ix2 i.1 i.2) : EReal) + dwguTerm V c t i := by
  rw [ptDwgu_apply]
  refine congrArg (fun z : EReal => (acc (ix2 i.1 i.2) : EReal) + z) (Finset.sum_congr rfl fun r _ => ?_)
  rw [xbAt_apply, dguAt_apply']

/-- A point adds its term to the down weight sum. -/
theorem ptDwd_at (t : Fin cfg0.N) (acc : Vec Ideal S256x3584 .f32) (i : Fin 256 × Fin 3584) :
    ptDwd (xbAt V c t) (wguAt V c t) (dybAt V c t) acc (ix2 i.1 i.2) = (acc (ix2 i.1 i.2) : EReal) + dwdTerm V c t i := by
  rw [ptDwd_apply]
  refine congrArg (fun z : EReal => (acc (ix2 i.1 i.2) : EReal) + z) (Finset.sum_congr rfl fun r _ => ?_)
  rw [hbAt_apply, dybAt_apply]

/-- The 128 points of a block of hidden columns visit every token once. -/
theorem sum_rows (t : Fin cfg0.N) (f : Fin 65536 → EReal) (hl : ∀ s : Fin 128, 128 * (t.val / 128) + s.val < cfg0.N) :
    ∑ s : Fin 128, ∑ r : Fin 512, f (rowOf ⟨128 * (t.val / 128) + s.val, hl s⟩ r) = ∑ n : Fin 65536, f n := by
  rw [← Fin.sum_mul_add_fin 128 512 f]
  refine Finset.sum_congr rfl fun s _ => Finset.sum_congr rfl fun r _ => congrArg f (Fin.ext ?_)
  simp only [rowOf]
  omega

/-- The points of one hidden tile share their hidden units. -/
theorem hidOf_run (t : Fin cfg0.N) (s : Fin 128) (h : 128 * (t.val / 128) + s.val < cfg0.N) (q : Fin 256) :
    hidOf ⟨128 * (t.val / 128) + s.val, h⟩ q = hidOf t q := by
  apply Fin.ext
  simp only [hidOf]
  omega

/-- At the last token tile of a block of hidden columns the gate and up weight gradient is complete. -/
theorem dwguAt_last (t : Fin cfg0.N) (h : t.val % 128 = 127) (j : Fin 3584) (l : Fin 512) :
    (dwguAt V c t.val t.isLt (ix2 j l) : EReal) = Val.dwgu (xv V c) (yv V c) (wgv V c) (wdv V c) j (kOf512 l) (hidOf t (qOf512 l)) := by
  have h0 : ∀ t : Fin cfg0.N, t.val % 128 = 0 → ∀ i : Fin 3584 × Fin 512, (dwguAt V c t.val t.isLt (ix2 i.1 i.2) : EReal) = (fun _ => 0 : Fin 3584 × Fin 512 → EReal) i + dwguTerm V c t i :=
    fun t h i => by rw [dwguAt_A V c t h, ptDwgu_at, pay38_apply]
  have hs : ∀ t : Fin cfg0.N, ¬t.val % 128 = 0 → ∀ i : Fin 3584 × Fin 512, (dwguAt V c t.val t.isLt (ix2 i.1 i.2) : EReal)
      = dwguAt V c (t.val - 1) (Nat.lt_of_le_of_lt (Nat.sub_le _ _) t.isLt) (ix2 i.1 i.2) + dwguTerm V c t i :=
    fun t h i => by rw [dwguAt_B V c t h, ptDwgu_at]
  have e := Pipeline.eq_sum_fin_of_reset_step_apply_of_flush (M := EReal) (fun n h (i : Fin 3584 × Fin 512) => dwguAt V c n h (ix2 i.1 i.2)) 128 (fun _ => 0) (dwguTerm V c)
    h0 hs t h (j, l)
  refine e.trans ((zero_add _).trans ?_)
  have hT : ∀ (s : Fin 128) (h : 128 * (t.val / 128) + s.val < cfg0.N), dwguTerm V c ⟨128 * (t.val / 128) + s.val, h⟩ (j, l)
      = ∑ r : Fin 512, (fun n => xv V c n j * Val.dgu (xv V c) (yv V c) (wgv V c) (wdv V c) n (kOf512 l) (hidOf t (qOf512 l))) (rowOf ⟨128 * (t.val / 128) + s.val, h⟩ r) := by
    intro s h
    unfold dwguTerm
    rw [hidOf_run]
  have hl : ∀ s : Fin 128, 128 * (t.val / 128) + s.val < cfg0.N := fun s => Pipeline.run_point_lt_of_flush t h s
  exact (Finset.sum_congr rfl fun s _ => hT s (hl s)).trans
    (sum_rows t (fun n => xv V c n j * Val.dgu (xv V c) (yv V c) (wgv V c) (wdv V c) n (kOf512 l) (hidOf t (qOf512 l))) hl)

/-- At the last token tile of a block of hidden columns the down weight gradient is complete. -/
theorem dwdAt_last (t : Fin cfg0.N) (h : t.val % 128 = 127) (q : Fin 256) (j : Fin 3584) :
    (dwdAt V c t.val t.isLt (ix2 q j) : EReal) = Val.dwd (xv V c) (yv V c) (wgv V c) (hidOf t q) j := by
  have h0 : ∀ t : Fin cfg0.N, t.val % 128 = 0 → ∀ i : Fin 256 × Fin 3584, (dwdAt V c t.val t.isLt (ix2 i.1 i.2) : EReal) = (fun _ => 0 : Fin 256 × Fin 3584 → EReal) i + dwdTerm V c t i :=
    fun t h i => by rw [dwdAt_A V c t h, ptDwd_at, pay39_apply]
  have hs : ∀ t : Fin cfg0.N, ¬t.val % 128 = 0 → ∀ i : Fin 256 × Fin 3584, (dwdAt V c t.val t.isLt (ix2 i.1 i.2) : EReal)
      = dwdAt V c (t.val - 1) (Nat.lt_of_le_of_lt (Nat.sub_le _ _) t.isLt) (ix2 i.1 i.2) + dwdTerm V c t i :=
    fun t h i => by rw [dwdAt_B V c t h, ptDwd_at]
  have e := Pipeline.eq_sum_fin_of_reset_step_apply_of_flush (M := EReal) (fun n h (i : Fin 256 × Fin 3584) => dwdAt V c n h (ix2 i.1 i.2)) 128 (fun _ => 0) (dwdTerm V c)
    h0 hs t h (q, j)
  refine e.trans ((zero_add _).trans ?_)
  have hT : ∀ (s : Fin 128) (h : 128 * (t.val / 128) + s.val < cfg0.N), dwdTerm V c ⟨128 * (t.val / 128) + s.val, h⟩ (q, j)
      = ∑ r : Fin 512, (fun n => Val.hb (xv V c) (wgv V c) n (hidOf t q) * yv V c n j) (rowOf ⟨128 * (t.val / 128) + s.val, h⟩ r) := by
    intro s h
    unfold dwdTerm
    rw [hidOf_run]
  have hl : ∀ s : Fin 128, 128 * (t.val / 128) + s.val < cfg0.N := fun s => Pipeline.run_point_lt_of_flush t h s
  exact (Finset.sum_congr rfl fun s _ => hT s (hl s)).trans
    (sum_rows t (fun n => Val.hb (xv V c) (wgv V c) n (hidOf t q) * yv V c n j) hl)

end Cert.KernelIdeal.Hand

end
-- ==== Proof.Value.Arrays0.lean ====
/- What the first kernel leaves in its four output arrays on extended reals: the gradients of the gate and up values, the
   dequantized gate and up weights, and the two weight gradients. -/
module

public import proofs.«01_k».proof.Proof.Value.Sums
public import Idealize.ShloMosaic.Lib.Pipeline.Covers

@[expose] public section

set_option maxRecDepth 16384

noncomputable section

namespace Cert.KernelIdeal.Hand

open Idealize.ShloMosaic Idealize.ShloMosaic.TcCoe Idealize.ShloMosaic.Tactic
open Cert.KernelIdeal.Gen

variable (V : (c : Dev nD) → (b : Ref sig .tc) → Buf (Elt Ideal) ((c : Thread nD τ).loc b)) (c : Dev nD)

/-- Whether interleaved column `l` is a gate or an up column, and of which hidden column. -/
def kOf (l : Fin 9728) : Fin 2 := ⟨l.val % 512 / 256, by omega⟩
/-- The hidden unit of an interleaved column. -/
def fOf (l : Fin 9728) : Fin 4864 := ⟨l.val / 512 * 256 + l.val % 256, by omega⟩

/-- A column is the one of its kind and hidden unit. -/
theorem colOf_kf (l : Fin 9728) : colOf (kOf l) (fOf l) = l := by apply Fin.ext; simp only [colOf, kOf, fOf]; omega
/-- The kind of the column of `k` and `f` is `k`. -/
theorem kOf_colOf (k : Fin 2) (f : Fin 4864) : kOf (colOf k f) = k := by apply Fin.ext; simp only [colOf, kOf]; omega
/-- The hidden unit of the column of `k` and `f` is `f`. -/
theorem fOf_colOf (k : Fin 2) (f : Fin 4864) : fOf (colOf k f) = f := by apply Fin.ext; simp only [colOf, fOf]; omega

/-- What window 8 must end as: the pre-activation gradients, in interleaved columns. -/
def G8 (i : S65536x9728.Idx) : EReal := Val.dgu (xv V c) (yv V c) (wgv V c) (wdv V c) (i 0) (kOf (i 1)) (fOf (i 1))
/-- What window 9 must end as: the dequantized gate and up weights, in interleaved columns. -/
def G9 (i : S3584x9728.Idx) : EReal := wgv V c (i 0) (kOf (i 1)) (fOf (i 1))
/-- What window 10 must end as: the gradient in the gate and up weights, in interleaved columns. -/
def G10 (i : S3584x9728.Idx) : EReal := Val.dwgu (xv V c) (yv V c) (wgv V c) (wdv V c) (i 0) (kOf (i 1)) (fOf (i 1))
/-- What window 11 must end as: the gradient in the down weights. -/
def G11 (i : S4864x3584.Idx) : EReal := Val.dwd (xv V c) (yv V c) (wgv V c) (i 0) (i 1)

/-- A small number survives the passage through a 32-bit word. -/
theorem ofNat_toNat {n k : Nat} (h : n < k) (hk : k ≤ 4294967296) : (BitVec.ofNat 32 n).toNat = n := by
  rw [BitVec.toNat_ofNat]
  exact Nat.mod_eq_of_lt (by omega)

/-- The dequantized gate and up block at a column, its kind and hidden unit read off the column. -/
theorem wguAt_apply' (t : Fin cfg0.N) (j : Fin 3584) (l : Fin 512) :
    wguAt V c t (ix2 j l) = wgv V c j (kOf512 l) (hidOf t (qOf512 l)) := by
  rw [← wguAt_apply]
  exact congrArg (fun z => wguAt V c t (ix2 j z)) (Fin.ext (Nat.div_add_mod' _ _).symm)

/-- A setting of the first grid's coordinates. -/
def at0 (a : Fin 19) (b : Fin 128) : grid0.Coords := fun | ⟨0, _⟩ => a | ⟨1, _⟩ => b

/-- The blocks of window 8 cover its array. -/
theorem cov8 : (cfg0.win 8).Covers := (cfg0.win 8).covers_of_indexMap_surj rfl (by decide) fun β =>
  ⟨at0 (β 1) (β 0), fun a => by fin_cases a; exacts [ofNat_toNat (β 0).isLt (by decide), ofNat_toNat (β 1).isLt (by decide)]⟩
/-- The blocks of window 9 cover its array. -/
theorem cov9 : (cfg0.win 9).Covers := (cfg0.win 9).covers_of_indexMap_surj rfl (by decide) fun β =>
  ⟨at0 (β 1) 0, fun a => by fin_cases a; exacts [(Nat.lt_one_iff.1 (β 0).isLt).symm, ofNat_toNat (β 1).isLt (by decide)]⟩
/-- The blocks of window 10 cover its array. -/
theorem cov10 : (cfg0.win 10).Covers := (cfg0.win 10).covers_of_indexMap_surj rfl (by decide) fun β =>
  ⟨at0 (β 1) 0, fun a => by fin_cases a; exacts [(Nat.lt_one_iff.1 (β 0).isLt).symm, ofNat_toNat (β 1).isLt (by decide)]⟩
/-- The blocks of window 11 cover its array. -/
theorem cov11 : (cfg0.win 11).Covers := (cfg0.win 11).covers_of_indexMap_surj rfl (by decide) fun β =>
  ⟨at0 (β 0) 0, fun a => by fin_cases a; exacts [ofNat_toNat (β 0).isLt (by decide), (Nat.lt_one_iff.1 (β 1).isLt).symm]⟩

/-- The gradients of the gate and up values, one row per token. -/
theorem arr8 : (dat0 V c).arrAt 8 cfg0.N = G8 V c := by
  refine (dat0 V c).arrAt_eq_of_covers 8 _ cov8 fun t hf y => ?_
  blk_simp
  rw [after0_8]
  obtain ⟨r, l, rfl⟩ : ∃ (r : Fin 512) (l : Fin 512), y = ix2 r l := ⟨y 0, y 1, by funext a; fin_cases a <;> rfl⟩
  have e : (win0_8.blk t).view.emb (ix2 r l) = ix2 (rowOf t r) (colOf (kOf512 l) (hidOf t (qOf512 l))) := by
    blk_ext [idx8 t, rowOf, hidOf, colOf, kOf512, qOf512]
  rw [e]
  unfold G8
  refine (dguAt_apply' V c t r l).trans ?_
  show _ = Val.dgu (xv V c) (yv V c) (wgv V c) (wdv V c) (rowOf t r) (kOf (colOf (kOf512 l) (hidOf t (qOf512 l)))) (fOf (colOf (kOf512 l) (hidOf t (qOf512 l))))
  rw [kOf_colOf, fOf_colOf]

/-- The gate and up weights, dequantized. -/
theorem arr9 : (dat0 V c).arrAt 9 cfg0.N = G9 V c := by
  refine (dat0 V c).arrAt_eq_of_covers 9 _ cov9 fun t hf y => ?_
  blk_simp
  rw [after0_9]
  obtain ⟨r, l, rfl⟩ : ∃ (r : Fin 3584) (l : Fin 512), y = ix2 r l := ⟨y 0, y 1, by funext a; fin_cases a <;> rfl⟩
  have e : (win0_9.blk t).view.emb (ix2 r l) = ix2 r (colOf (kOf512 l) (hidOf t (qOf512 l))) := by
    blk_ext [idx9 t, rowOf, hidOf, colOf, kOf512, qOf512]
  rw [e]
  unfold G9
  refine (wguAt_apply' V c t r l).trans ?_
  show _ = wgv V c r (kOf (colOf (kOf512 l) (hidOf t (qOf512 l)))) (fOf (colOf (kOf512 l) (hidOf t (qOf512 l))))
  rw [kOf_colOf, fOf_colOf]

/-- The gate and up weight gradient. -/
theorem arr10 : (dat0 V c).arrAt 10 cfg0.N = G10 V c := by
  refine (dat0 V c).arrAt_eq_of_covers 10 _ cov10 fun t hf y => ?_
  blk_simp
  rw [after0_10]
  obtain ⟨r, l, rfl⟩ : ∃ (r : Fin 3584) (l : Fin 512), y = ix2 r l := ⟨y 0, y 1, by funext a; fin_cases a <;> rfl⟩
  have e : (win0_10.blk t).view.emb (ix2 r l) = ix2 r (colOf (kOf512 l) (hidOf t (qOf512 l))) := by
    blk_ext [idx10 t, rowOf, hidOf, colOf, kOf512, qOf512]
  rw [e]
  unfold G10
  refine (dwguAt_last V c t ((flush0_10 t).1 hf) r l).trans ?_
  show _ = Val.dwgu (xv V c) (yv V c) (wgv V c) (wdv V c) r (kOf (colOf (kOf512 l) (hidOf t (qOf512 l)))) (fOf (colOf (kOf512 l) (hidOf t (qOf512 l))))
  rw [kOf_colOf, fOf_colOf]

/-- The down weight gradient. -/
theorem arr11 : (dat0 V c).arrAt 11 cfg0.N = G11 V c := by
  refine (dat0 V c).arrAt_eq_of_covers 11 _ cov11 fun t hf y => ?_
  blk_simp
  rw [after0_11]
  obtain ⟨r, l, rfl⟩ : ∃ (r : Fin 256) (l : Fin 3584), y = ix2 r l := ⟨y 0, y 1, by funext a; fin_cases a <;> rfl⟩
  have e : (win0_11.blk t).view.emb (ix2 r l) = ix2 (hidOf t r) l := by
    blk_ext [idx11 t, rowOf, hidOf, colOf, kOf512, qOf512]
  rw [e]
  exact dwdAt_last V c t ((flush0_11 t).1 hf) r l

end Cert.KernelIdeal.Hand

end
-- ==== Proof.Value.Arrays1.lean ====
/- What the second kernel leaves in its output array on extended reals: every token's gradients against every weight row,
   summed over the 9728 interleaved columns, which are the 4864 hidden columns of the gate and of the up half. -/
module

public import proofs.«01_k».proof.Proof.KernelIdeal.Region1
public import proofs.«01_k».proof.Proof.Value.Arrays0

@[expose] public section

set_option maxRecDepth 16384

noncomputable section

namespace Cert.KernelIdeal.Hand

open Idealize.ShloMosaic Idealize.ShloMosaic.TcCoe Idealize.ShloMosaic.Tactic
open Cert.KernelIdeal.Gen

variable (V : (c : Dev nD) → (b : Ref sig .tc) → Buf (Elt Ideal) ((c : Thread nD τ).loc b)) (c : Dev nD)

/-- One point of the second kernel: 512 tokens' gradients times 512 weight rows. -/
theorem out1_2_apply (x0 x1 : Vec Ideal S512x9728 .bf16) (r l : Fin 512) :
    out1_2 x0 x1 (ix2 r l) = ∑ j : Fin 9728, x0 (ix2 r j) * x1 (ix2 l j) := by
  unfold out1_2
  frame_out
  unfold k1_pay1
  pointwise

/-- The second kernel has 896 grid points. -/
theorem lt1 (t : Fin cfg1.N) : t.val < 896 := t.isLt

/-- The token row and the model column of point `t`'s block. -/
def row1 (t : Fin cfg1.N) (r : Fin 512) : Fin 65536 := ⟨t.val % 128 * 512 + r.val, by omega⟩
/-- The model column of column `l` of the block at a point. -/
def col1 (t : Fin cfg1.N) (l : Fin 512) : Fin 3584 := ⟨t.val / 128 * 512 + l.val, by have := lt1 t; omega⟩

/-- The block of pre-activation gradients at an element. -/
theorem iblk1_0_apply (t : Fin cfg1.N) (r : Fin 512) (j : Fin 9728) :
    iblk1 V c 0 t (ix2 r j) = V c main_v15_0 (ix2 (row1 t r) j) := by
  blk_simp [iblk1]
  refine congrArg (V c main_v15_0) ?_
  blk_ext [jdx0 t, row1]

/-- The block of weights at an element. -/
theorem iblk1_1_apply (t : Fin cfg1.N) (l : Fin 512) (j : Fin 9728) :
    iblk1 V c 1 t (ix2 l j) = V c main_v15_1 (ix2 (col1 t l) j) := by
  blk_simp [iblk1]
  refine congrArg (V c main_v15_1) ?_
  blk_ext [jdx1 t, col1]

/-- A token's row of `d` times a model column's row of `w`. -/
def rowDot (d : S65536x9728.Idx → EReal) (w : S3584x9728.Idx → EReal) (n : Fin 65536) (j : Fin 3584) : EReal :=
  ∑ l : Fin 9728, d (ix2 n l) * w (ix2 j l)

/-- The grid point of column tile `a` and token tile `b`. -/
def at1 (a : Fin 7) (b : Fin 128) : grid1.Coords := fun | ⟨0, _⟩ => a | ⟨1, _⟩ => b

/-- The output blocks cover the array. -/
theorem cov1_2 : (cfg1.win 2).Covers := (cfg1.win 2).covers_of_indexMap_surj rfl (by decide) fun β =>
  ⟨at1 (β 1) (β 0), fun a => by fin_cases a; exacts [ofNat_toNat (β 0).isLt (by decide), ofNat_toNat (β 1).isLt (by decide)]⟩

/-- The second kernel's output array. -/
theorem arr1_2 : (dat1 V c).arrAt 2 cfg1.N = fun i : S65536x3584.Idx => rowDot (V c main_v15_0) (V c main_v15_1) (i 0) (i 1) := by
  refine (dat1 V c).arrAt_eq_of_covers 2 _ cov1_2 fun t hf y => ?_
  blk_simp
  rw [after1_2]
  obtain ⟨r, l, rfl⟩ : ∃ (r : Fin 512) (l : Fin 512), y = ix2 r l := ⟨y 0, y 1, by funext a; fin_cases a <;> rfl⟩
  have e : (win1_2.blk t).view.emb (ix2 r l) = ix2 (row1 t r) (col1 t l) := by
    blk_ext [jdx2 t, row1, col1]
  rw [e]
  refine (out1_2_apply _ _ r l).trans ?_
  show _ = ∑ j : Fin 9728, _
  exact Finset.sum_congr rfl fun j _ => congrArg₂ (fun a b : EReal => a * b) (iblk1_0_apply V c t r j) (iblk1_1_apply V c t l j)

/-- The interleaved columns are the pairs of a half and a hidden column. -/
def colEquiv : Fin 9728 ≃ Fin 4864 × Fin 2 where
  toFun l := (fOf l, kOf l)
  invFun p := colOf p.2 p.1
  left_inv l := colOf_kf l
  right_inv p := Prod.ext (fOf_colOf p.2 p.1) (kOf_colOf p.2 p.1)

/-- The second kernel on the first kernel's arrays: the input gradient. -/
theorem rowDot_G (n : Fin 65536) (j : Fin 3584) :
    rowDot (G8 V c) (G9 V c) n j = Val.dx (xv V c) (yv V c) (wgv V c) (wdv V c) n j := by
  unfold rowDot Val.dx
  rw [← Fintype.sum_prod_type' (f := fun f k => Val.dgu (xv V c) (yv V c) (wgv V c) (wdv V c) n k f * wgv V c j k f)]
  exact Fintype.sum_equiv colEquiv _ _ fun l => rfl

end Cert.KernelIdeal.Hand

end
-- ==== Proof.Value.Entry.lean ====
/- What the first kernel is launched on: the host operations before it only rearrange the arguments, so its operands are the
   layer's operands. -/
module

public import proofs.«01_k».proof.Proof.KernelIdeal.Run
public import proofs.«01_k».proof.Proof.Value.Arrays1
public import Idealize.ShloMosaic.Lib.StableHlo.Run
public import Idealize.ShloMosaic.Lib.StableHlo.RunClose

@[expose] public section

set_option maxRecDepth 16384

noncomputable section

namespace Cert.KernelIdeal.Hand

open Idealize.ShloMosaic Idealize.ShloMosaic.TcCoe Idealize.ShloMosaic.Tactic Idealize.ShloMosaic.StableHlo
open Cert.KernelIdeal.Gen

variable (m : (ℓ : Loc nD τ sig) → Buf (Elt Ideal) ℓ) (ρ : Dev nD → PrngReg) (c : Dev nD)

/-- The gate and up codes as the first kernel receives them. -/
theorem V1_v2 : V1 m ρ c main_v2 = shapeCast S3584x9728 (transpose S3584x19x2x256 [0, 2, 1, 3] (shapeCast S3584x2x19x256 (m ((c : Thread nD τ).loc main_arg4)) shapeCasts_S3584x2x4864_S3584x2x19x256) transposes_S3584x2x19x256_S3584x19x2x256_0_2_1_3) shapeCasts_S3584x19x2x256_S3584x9728 := by
  show StableHlo.after hostOps0 _ _ = _
  unfold hostOps0
  after_results_simp
  rfl
/-- Interleaving the gate and up codes, read at a column. -/
theorem v2_apply {e : EltTy} (a : Vec Ideal S3584x2x4864 e) (j : Fin 3584) (k : Fin 2) (f : Fin 4864) :
    shapeCast S3584x9728 (transpose S3584x19x2x256 [0, 2, 1, 3] (shapeCast S3584x2x19x256 a shapeCasts_S3584x2x4864_S3584x2x19x256) transposes_S3584x2x19x256_S3584x19x2x256_0_2_1_3) shapeCasts_S3584x19x2x256_S3584x9728 (ix2 j (colOf k f))
      = a (ix3 j k f) := by
  pointwise
  refine congrArg a ?_
  congr 1 <;> apply Fin.ext <;> simp only [colOf] <;> omega

/-- The gate and up scales as the first kernel receives them. -/
theorem V1_v7 : V1 m ρ c main_v7 = shapeCast S28x9728 (transpose S28x19x2x256 [0, 2, 1, 3] (shapeCast S28x2x19x256 (shapeCast S28x2x4864 (broadcastInDim S28x2x38x128 ![0, 1, 2] bcast_S28x2x38_S28x2x38x128_0_1_2 (m ((c : Thread nD τ).loc main_arg5))) shapeCasts_S28x2x38x128_S28x2x4864) shapeCasts_S28x2x4864_S28x2x19x256) transposes_S28x2x19x256_S28x19x2x256_0_2_1_3) shapeCasts_S28x19x2x256_S28x9728 := by
  show StableHlo.after hostOps0 _ _ = _
  unfold hostOps0
  after_results_simp
  rfl
/-- Repeating and interleaving the gate and up scales, read at a column. -/
theorem v7_apply {e : EltTy} (a : Vec Ideal S28x2x38 e) (j : Fin 28) (k : Fin 2) (f : Fin 4864) :
    shapeCast S28x9728 (transpose S28x19x2x256 [0, 2, 1, 3] (shapeCast S28x2x19x256 (shapeCast S28x2x4864 (broadcastInDim S28x2x38x128 ![0, 1, 2] bcast_S28x2x38_S28x2x38x128_0_1_2 a) shapeCasts_S28x2x38x128_S28x2x4864) shapeCasts_S28x2x4864_S28x2x19x256) transposes_S28x2x19x256_S28x19x2x256_0_2_1_3) shapeCasts_S28x19x2x256_S28x9728 (ix2 j (colOf k f))
      = a (ix3 j k (⟨f.val / 128, by omega⟩ : Fin 38)) := by
  pointwise
  refine congrArg a ?_
  congr 1 <;> apply Fin.ext <;> simp only [colOf] <;> omega

/-- The down scales as the first kernel receives them. -/
theorem V1_v10 : V1 m ρ c main_v10 = shapeCast S19x2x3584 (shapeCast S38x3584 (broadcastInDim S38x28x128 ![0, 1] bcast_S38x28_S38x28x128_0_1 (m ((c : Thread nD τ).loc main_arg7))) shapeCasts_S38x28x128_S38x3584) shapeCasts_S38x3584_S19x2x3584 := by
  show StableHlo.after hostOps0 _ _ = _
  unfold hostOps0
  after_results_simp
  rfl
/-- Repeating the down scales and cutting them by hidden tile, read at an element. -/
theorem v10_apply {e : EltTy} (a : Vec Ideal S38x28 e) (f : Fin 4864) (j : Fin 3584) :
    shapeCast S19x2x3584 (shapeCast S38x3584 (broadcastInDim S38x28x128 ![0, 1] bcast_S38x28_S38x28x128_0_1 a) shapeCasts_S38x28x128_S38x3584) shapeCasts_S38x3584_S19x2x3584 (ix3 (⟨f.val / 256, by omega⟩ : Fin 19) (⟨f.val % 256 / 128, by omega⟩ : Fin 2) j)
      = a (ix2 (⟨f.val / 128, by omega⟩ : Fin 38) (⟨j.val / 128, by omega⟩ : Fin 28)) := by
  pointwise
  refine congrArg a ?_
  congr 1 <;> apply Fin.ext <;> simp only [colOf] <;> omega

/-- The token codes as the first kernel receives them. -/
theorem V1_v11 : V1 m ρ c main_v11 = shapeCast S65536x3584 (m ((c : Thread nD τ).loc main_arg0)) shapeCasts_S16x4096x3584_S65536x3584 := by
  show StableHlo.after hostOps0 _ _ = _
  unfold hostOps0
  after_results_simp
  rfl
/-- Flattening the tokens, read at an element. -/
theorem v11_apply {e : EltTy} (a : Vec Ideal S16x4096x3584 e) (n : Fin 65536) (j : Fin 3584) :
    shapeCast S65536x3584 a shapeCasts_S16x4096x3584_S65536x3584 (ix2 n j)
      = a (ix3 (⟨n.val / 4096, by omega⟩ : Fin 16) (⟨n.val % 4096, by omega⟩ : Fin 4096) j) := by
  pointwise

/-- The token scales as the first kernel receives them. -/
theorem V1_v12 : V1 m ρ c main_v12 = shapeCast S65536x28 (m ((c : Thread nD τ).loc main_arg1)) shapeCasts_S16x4096x28_S65536x28 := by
  show StableHlo.after hostOps0 _ _ = _
  unfold hostOps0
  after_results_simp
  rfl
/-- Flattening the token scales, read at an element. -/
theorem v12_apply {e : EltTy} (a : Vec Ideal S16x4096x28 e) (n : Fin 65536) (j : Fin 28) :
    shapeCast S65536x28 a shapeCasts_S16x4096x28_S65536x28 (ix2 n j)
      = a (ix3 (⟨n.val / 4096, by omega⟩ : Fin 16) (⟨n.val % 4096, by omega⟩ : Fin 4096) j) := by
  pointwise

/-- The upstream gradient codes as the first kernel receives them. -/
theorem V1_v13 : V1 m ρ c main_v13 = shapeCast S65536x3584 (m ((c : Thread nD τ).loc main_arg2)) shapeCasts_S16x4096x3584_S65536x3584 := by
  show StableHlo.after hostOps0 _ _ = _
  unfold hostOps0
  after_results_simp
  rfl
/-- The upstream gradient scales as the first kernel receives them. -/
theorem V1_v14 : V1 m ρ c main_v14 = shapeCast S65536x28 (m ((c : Thread nD τ).loc main_arg3)) shapeCasts_S16x4096x28_S65536x28 := by
  show StableHlo.after hostOps0 _ _ = _
  unfold hostOps0
  after_results_simp
  rfl
/-- The down codes as the first kernel receives them: the argument itself. -/
theorem V1_arg6 : V1 m ρ c main_arg6 = m ((c : Thread nD τ).loc main_arg6) := W1_args m ρ c main_arg6 (by decide)

/-- The layer's operands, from the program's arguments. -/
abbrev argX := Val.tok (m ((c : Thread nD τ).loc main_arg0)) (m ((c : Thread nD τ).loc main_arg1))
/-- The upstream gradients, dequantized from the arguments. -/
abbrev argY := Val.tok (m ((c : Thread nD τ).loc main_arg2)) (m ((c : Thread nD τ).loc main_arg3))
/-- The gate and up weights, dequantized from the arguments. -/
abbrev argWg := Val.wgu (m ((c : Thread nD τ).loc main_arg4)) (m ((c : Thread nD τ).loc main_arg5))
/-- The down weights, dequantized from the arguments. -/
abbrev argWd := Val.wdown (m ((c : Thread nD τ).loc main_arg6)) (m ((c : Thread nD τ).loc main_arg7))

/-- The tokens the first kernel works on are those of the arguments. -/
theorem xv_eq : xv (V1 m ρ) c = argX m c := by
  funext n j
  unfold xv tokOf argX Val.tok
  rw [V1_v11, V1_v12]
  exact congrArg₂ (fun a b : EReal => a * b) (v11_apply _ n j) (v12_apply _ n _)

/-- The upstream gradients the first kernel works on are those of the arguments. -/
theorem yv_eq : yv (V1 m ρ) c = argY m c := by
  funext n j
  unfold yv tokOf argY Val.tok
  rw [V1_v13, V1_v14]
  exact congrArg₂ (fun a b : EReal => a * b) (v11_apply _ n j) (v12_apply _ n _)

/-- The gate and up weights the first kernel works on are those of the arguments. -/
theorem wgv_eq : wgv (V1 m ρ) c = argWg m c := by
  funext j k f
  unfold wgv guOf argWg Val.wgu
  rw [V1_v2, V1_v7]
  exact congrArg₂ (fun a b : EReal => a * b) (v2_apply _ j k f) (v7_apply _ _ k f)

/-- The down weights the first kernel works on are those of the arguments. -/
theorem wdv_eq : wdv (V1 m ρ) c = argWd m c := by
  funext f j
  unfold wdv downOf argWd Val.wdown
  rw [V1_arg6, V1_v10]
  exact congrArg₂ (fun a b : EReal => a * b) rfl (v10_apply _ f j)

end Cert.KernelIdeal.Hand

end
-- ==== Proof.Value.Results.lean ====
/- The program's three results on extended reals, as functions of its arguments: the input gradient, the gate and up weight
   gradient and the down weight gradient of the layer. -/
module

public import proofs.«01_k».proof.Proof.Value.Entry

@[expose] public section

set_option maxRecDepth 16384

noncomputable section

namespace Cert.KernelIdeal.Hand

open Idealize.ShloMosaic Idealize.ShloMosaic.TcCoe Idealize.ShloMosaic.Tactic Idealize.ShloMosaic.StableHlo
open Cert.KernelIdeal.Gen

variable (m : (ℓ : Loc nD τ sig) → Buf (Elt Ideal) ℓ) (ρ : Dev nD → PrngReg) (c : Dev nD)

/-- The pre-activation gradients as the second kernel receives them. -/
theorem V2_v15_0 : V2 m ρ c main_v15_0 = G8 (V1 m ρ) c := (W2_arr m ρ c 8).trans (arr8 (V1 m ρ) c)
/-- The dequantized gate and up weights as the second kernel receives them. -/
theorem V2_v15_1 : V2 m ρ c main_v15_1 = G9 (V1 m ρ) c := (W2_arr m ρ c 9).trans (arr9 (V1 m ρ) c)
/-- The gate and up weight gradient after both kernels, in interleaved columns. -/
theorem V3_v15_2 : V3 m ρ c main_v15_2 = G10 (V1 m ρ) c :=
  (W3_of_ne m ρ c main_v15_2 (by decide)).trans ((W2_arr m ρ c 10).trans (arr10 (V1 m ρ) c))
/-- The down weight gradient after both kernels. -/
theorem V3_v15_3 : V3 m ρ c main_v15_3 = G11 (V1 m ρ) c :=
  (W3_of_ne m ρ c main_v15_3 (by decide)).trans ((W2_arr m ρ c 11).trans (arr11 (V1 m ρ) c))
/-- The token gradient after both kernels: a row product over the interleaved columns. -/
theorem V3_v16 : V3 m ρ c main_v16 = fun i : S65536x3584.Idx => rowDot (G8 (V1 m ρ) c) (G9 (V1 m ρ) c) (i 0) (i 1) := by
  refine ((W3_arr m ρ c 2).trans (arr1_2 (V2 m ρ) c)).trans ?_
  rw [V2_v15_0, V2_v15_1]

/-- The down weight gradient. -/
theorem res_v15_3 : W4 m ρ c (Proc.devRef .tc main_v15_3)
    = fun i : S4864x3584.Idx => Val.dwd (argX m c) (argY m c) (argWg m c) (i 0) (i 1) := by
  refine (W4_of m ρ c main_v15_3 (by decide)).trans ((V3_v15_3 m ρ c).trans ?_)
  unfold G11
  rw [xv_eq, yv_eq, wgv_eq]

/-- The second result is the gate and up weight gradient with the interleaving undone. -/
theorem W4_v19 : W4 m ρ c (Proc.devRef .tc main_v19) = shapeCast S3584x2x4864 (transpose S3584x2x19x256 [0, 2, 1, 3] (shapeCast S3584x19x2x256 (V3 m ρ c main_v15_2) shapeCasts_S3584x9728_S3584x19x2x256) transposes_S3584x19x2x256_S3584x2x19x256_0_2_1_3) shapeCasts_S3584x2x19x256_S3584x2x4864 := by
  show StableHlo.after hostOps2 _ _ = _
  unfold hostOps2
  after_results_simp
  rfl

/-- The first result is the token gradient, unflattened. -/
theorem W4_v20 : W4 m ρ c (Proc.devRef .tc main_v20) = shapeCast S16x4096x3584 (V3 m ρ c main_v16) shapeCasts_S65536x3584_S16x4096x3584 := by
  show StableHlo.after hostOps2 _ _ = _
  unfold hostOps2
  after_results_simp
  rfl

/-- Undoing the interleaving, read at an element. -/
theorem v19_apply (a : Vec Ideal S3584x9728 .f32) (j : Fin 3584) (k : Fin 2) (f : Fin 4864) :
    shapeCast S3584x2x4864 (transpose S3584x2x19x256 [0, 2, 1, 3] (shapeCast S3584x19x2x256 a shapeCasts_S3584x9728_S3584x19x2x256) transposes_S3584x19x2x256_S3584x2x19x256_0_2_1_3) shapeCasts_S3584x2x19x256_S3584x2x4864 (ix3 j k f)
      = a (ix2 j (colOf k f)) := by
  pointwise
  refine congrArg a ?_
  congr 1 <;> apply Fin.ext <;> simp only [colOf] <;> omega

/-- The gate and up weight gradient. -/
theorem res_v19 : W4 m ρ c (Proc.devRef .tc main_v19)
    = fun i : S3584x2x4864.Idx => Val.dwgu (argX m c) (argY m c) (argWg m c) (argWd m c) (i 0) (i 1) (i 2) := by
  rw [W4_v19, V3_v15_2]
  funext i
  obtain ⟨j, k, f, rfl⟩ : ∃ (j : Fin 3584) (k : Fin 2) (f : Fin 4864), i = ix3 j k f := ⟨i 0, i 1, i 2, by funext a; fin_cases a <;> rfl⟩
  rw [v19_apply]
  unfold G10
  rw [xv_eq, yv_eq, wgv_eq, wdv_eq]
  show Val.dwgu _ _ _ _ j (kOf (colOf k f)) (fOf (colOf k f)) = Val.dwgu _ _ _ _ j k f
  rw [kOf_colOf, fOf_colOf]

/-- The input gradient. -/
theorem res_v20 : W4 m ρ c (Proc.devRef .tc main_v20)
    = fun i : S16x4096x3584.Idx => Val.dx (argX m c) (argY m c) (argWg m c) (argWd m c) (Val.tokenOf (i 0) (i 1)) (i 2) := by
  rw [W4_v20, V3_v16]
  funext i
  obtain ⟨b, p, j, rfl⟩ : ∃ (b : Fin 16) (p : Fin 4096) (j : Fin 3584), i = ix3 b p j := ⟨i 0, i 1, i 2, by funext a; fin_cases a <;> rfl⟩
  have e : shapeCast S16x4096x3584 (fun i : S65536x3584.Idx => rowDot (G8 (V1 m ρ) c) (G9 (V1 m ρ) c) (i 0) (i 1)) shapeCasts_S65536x3584_S16x4096x3584 (ix3 b p j)
      = rowDot (G8 (V1 m ρ) c) (G9 (V1 m ρ) c) (Val.tokenOf b p) j := by
    generalize rowDot (G8 (V1 m ρ) c) (G9 (V1 m ρ) c) = g
    unfold Val.tokenOf
    pointwise
  refine e.trans ?_
  rw [rowDot_G, xv_eq, yv_eq, wgv_eq, wdv_eq]
  rfl

end Cert.KernelIdeal.Hand

end
-- ==== Proof.Value.RefRegion.lean ====
/- The reference's one kernel region on extended reals: it only widens the stored codes, so it leaves each code array as it was. -/
module

public import proofs.«01_k».proof.Proof.Gen.ReferenceIdeal.Run
public import Idealize.ShloMosaic.Lib.Pipeline.ValueKit
public import Idealize.ShloMosaic.Lib.Pipeline.Covers
public import Idealize.ShloMosaic.Lib.Pointwise.Tactic

@[expose] public section

set_option maxRecDepth 16384

noncomputable section

namespace Cert.ReferenceIdeal.Hand

open Idealize.ShloMosaic Idealize.ShloMosaic.TcCoe Idealize.ShloMosaic.Tactic
open Cert.ReferenceIdeal.Gen Cert.ReferenceIdeal.Value

variable (m : (ℓ : Loc nD τ sig) → Buf (Elt Ideal) ℓ) (c : Dev nD)

/-- Window 4 is its whole array, so its one block covers it. -/
theorem cov4 : (cfg0.win 4).Covers := by decide +kernel

/-- The widened token codes are the token codes. -/
theorem reg0 : reg_main_v0_0 m c = fun i : S16x4096x3584.Idx => (m ((c : Thread nD τ).loc main_arg0) i : EReal) := by
  unfold reg_main_v0_0
  refine (dats m 0 c).arrAt_eq_of_covers 4 _ cov4 fun t hf y => ?_
  blk_simp
  rw [after0_4]
  unfold out0_4
  frame_out
  unfold k0_pay1
  pointwise
  blk_simp [iblk]
  rw [V_main_arg0]
  rfl

/-- Window 5 is its whole array, so its one block covers it. -/
theorem cov5 : (cfg0.win 5).Covers := by decide +kernel

/-- The widened upstream gradient codes are the upstream gradient codes. -/
theorem reg1 : reg_main_v0_1 m c = fun i : S16x4096x3584.Idx => (m ((c : Thread nD τ).loc main_arg2) i : EReal) := by
  unfold reg_main_v0_1
  refine (dats m 0 c).arrAt_eq_of_covers 5 _ cov5 fun t hf y => ?_
  blk_simp
  rw [after0_5]
  unfold out0_5
  frame_out
  unfold k0_pay2
  pointwise
  blk_simp [iblk]
  rw [V_main_arg2]
  rfl

/-- Window 6 is its whole array, so its one block covers it. -/
theorem cov6 : (cfg0.win 6).Covers := by decide +kernel

/-- The widened gate and up codes are the gate and up codes. -/
theorem reg2 : reg_main_v0_2 m c = fun i : S3584x2x4864.Idx => (m ((c : Thread nD τ).loc main_arg4) i : EReal) := by
  unfold reg_main_v0_2
  refine (dats m 0 c).arrAt_eq_of_covers 6 _ cov6 fun t hf y => ?_
  blk_simp
  rw [after0_6]
  unfold out0_6
  frame_out
  unfold k0_pay3
  pointwise
  blk_simp [iblk]
  rw [V_main_arg4]
  rfl

/-- Window 7 is its whole array, so its one block covers it. -/
theorem cov7 : (cfg0.win 7).Covers := by decide +kernel

/-- The widened down codes are the down codes. -/
theorem reg3 : reg_main_v0_3 m c = fun i : S4864x3584.Idx => (m ((c : Thread nD τ).loc main_arg6) i : EReal) := by
  unfold reg_main_v0_3
  refine (dats m 0 c).arrAt_eq_of_covers 7 _ cov7 fun t hf y => ?_
  blk_simp
  rw [after0_7]
  unfold out0_7
  frame_out
  unfold k0_pay4
  pointwise
  blk_simp [iblk]
  rw [V_main_arg6]
  rfl

end Cert.ReferenceIdeal.Hand

end
-- ==== Proof.Value.RefRead.lean ====
/- The reference on extended reals, read at an element: its operands are the layer's operands, and its three results the
   layer's three gradients. -/
module

public import proofs.«01_k».proof.Proof.Gen.ReferenceIdeal.Read
public import proofs.«01_k».proof.Proof.Value.Math
public import Idealize.ShloMosaic.Lib.Pointwise.Tactic
public import Idealize.ShloMosaic.Lib.Pointwise.Contract
public import Idealize.ShloMosaic.Lib.Pointwise.Reshape
public import Idealize.ShloMosaic.Lib.Pointwise.Select
public import Idealize.ShloMosaic.Lib.Pointwise.ShapeOps
public import Idealize.ShloMosaic.Lib.TwoAxisContraction

@[expose] public section

set_option maxRecDepth 16384

noncomputable section

namespace Cert.ReferenceIdeal.Hand

open Idealize.ShloMosaic Idealize.ShloMosaic.TcCoe Idealize.ShloMosaic.Tactic
open Cert.ReferenceIdeal.Gen Cert.ReferenceIdeal.Read

variable (x1 x3 : Vec Ideal S16x4096x28 .f32) (x5 : Vec Ideal S28x2x38 .f32) (x7 : Vec Ideal S38x28 .f32)
  (r0 r1 : Vec Ideal S16x4096x3584 .bf16) (r2 : Vec Ideal S3584x2x4864 .bf16) (r3 : Vec Ideal S4864x3584 .bf16)

/-- The reference's dequantized tokens at an element. -/
theorem v19_apply (n : Fin 65536) (j : Fin 3584) : val_main_v19 (F := Ideal) x1 r0 (ix2 n j) = Val.tok r0 x1 n j := by
  unfold val_main_v19 val_main_v18 val_main_v17 val_main_v16 val_main_v15 val_main_v14 val_main_v13 Val.tok
  pointwise

/-- The reference's dequantized upstream gradients at an element. -/
theorem v26_apply (n : Fin 65536) (j : Fin 3584) : val_main_v26 (F := Ideal) x3 r1 (ix2 n j) = Val.tok r1 x3 n j := v19_apply x3 r1 n j

/-- The reference's dequantized gate and up weights at an element. -/
theorem v6_apply (j : Fin 3584) (k : Fin 2) (f : Fin 4864) : val_main_v6 (F := Ideal) x5 r2 (ix3 j k f) = Val.wgu r2 x5 j k f := by
  unfold val_main_v6 val_main_v5 val_main_v4 val_main_v3 val_main_v2 val_main_v1 Val.wgu
  pointwise

/-- The reference's dequantized down weights at an element. -/
theorem v12_apply (f : Fin 4864) (j : Fin 3584) : val_main_v12 (F := Ideal) x7 r3 (ix2 f j) = Val.wdown r3 x7 f j := by
  unfold val_main_v12 val_main_v11 val_main_v10 val_main_v9 val_main_v8 val_main_v7 Val.wdown
  pointwise

/-- Its pre-activations are the layer's. -/
theorem v27_apply (n : Fin 65536) (k : Fin 2) (f : Fin 4864) :
    val_main_v27 (F := Ideal) x1 x5 r0 r2 (ix3 n k f) = Val.gu (Val.tok r0 x1) (Val.wgu r2 x5) n k f := by
  unfold val_main_v27 Val.gu
  simp only [← v19_apply, ← v6_apply]
  generalize val_main_v19 (F := Ideal) x1 r0 = a
  generalize val_main_v6 (F := Ideal) x5 r2 = b
  pointwise

/-- Its gradient in the hidden activations is the layer's. -/
theorem v41_apply (n : Fin 65536) (f : Fin 4864) :
    val_main_v41 (F := Ideal) x3 x7 r1 r3 (ix2 n f) = Val.dh (Val.tok r1 x3) (Val.wdown r3 x7) n f := by
  unfold val_main_v41 Val.dh
  simp only [← v26_apply, ← v12_apply]
  generalize val_main_v26 (F := Ideal) x3 r1 = a
  generalize val_main_v12 (F := Ideal) x7 r3 = b
  pointwise

/-- Its gate pre-activation is the kind-0 half. -/
theorem v29_apply (n : Fin 65536) (f : Fin 4864) :
    val_main_v29 (F := Ideal) x1 x5 r0 r2 (ix2 n f) = Val.gu (Val.tok r0 x1) (Val.wgu r2 x5) n 0 f := by
  unfold val_main_v29 val_main_v28
  rw [← v27_apply]
  pointwise

/-- Its up pre-activation is the kind-1 half. -/
theorem v31_apply (n : Fin 65536) (f : Fin 4864) :
    val_main_v31 (F := Ideal) x1 x5 r0 r2 (ix2 n f) = Val.gu (Val.tok r0 x1) (Val.wgu r2 x5) n 1 f := by
  unfold val_main_v31 val_main_v30
  rw [← v27_apply]
  pointwise

/-- Its sigmoid of the gate, written with an exponential and a division, is the logistic function. -/
theorem v37_apply (n : Fin 65536) (f : Fin 4864) :
    val_main_v37 (F := Ideal) x1 x5 r0 r2 (ix2 n f) = Ideal.logistic (val_main_v29 (F := Ideal) x1 x5 r0 r2 (ix2 n f)) := by
  unfold val_main_v37 val_main_v36 val_main_v35 val_main_v34 val_main_v33 val_main_v32 val_main_cst val_main_cst_0
  pointwise
  rfl

/-- Its hidden activations are the layer's. -/
theorem v40_apply (n : Fin 65536) (f : Fin 4864) :
    val_main_v40 (F := Ideal) x1 x5 r0 r2 (ix2 n f) = Val.hb (Val.tok r0 x1) (Val.wgu r2 x5) n f := by
  unfold val_main_v40 val_main_v39 val_main_v38 Val.hb Val.hid
  rw [← v29_apply, ← v31_apply]
  pointwise
  rw [v37_apply]

/-- Its gradient in the gate pre-activation is the layer's. -/
theorem v49_apply (n : Fin 65536) (f : Fin 4864) : val_main_v49 (F := Ideal) x1 x3 x5 x7 r0 r1 r2 r3 (ix2 n f)
    = Val.dGate (Val.dh (Val.tok r1 x3) (Val.wdown r3 x7) n f) (Val.gu (Val.tok r0 x1) (Val.wgu r2 x5) n 0 f) (Val.gu (Val.tok r0 x1) (Val.wgu r2 x5) n 1 f) := by
  unfold val_main_v49 val_main_v43 val_main_v42 val_main_v48 val_main_v47 val_main_v46 val_main_v45 val_main_v44 val_main_cst_1 val_main_cst_2 Val.dGate
  rw [← v29_apply, ← v31_apply, ← v41_apply]
  pointwise
  rw [v37_apply]

/-- Its gradient in the up pre-activation is the layer's. -/
theorem v51_apply (n : Fin 65536) (f : Fin 4864) : val_main_v51 (F := Ideal) x1 x3 x5 x7 r0 r1 r2 r3 (ix2 n f)
    = Val.dUp (Val.dh (Val.tok r1 x3) (Val.wdown r3 x7) n f) (Val.gu (Val.tok r0 x1) (Val.wgu r2 x5) n 0 f) := by
  unfold val_main_v51 val_main_v50 Val.dUp
  rw [← v29_apply, ← v41_apply]
  pointwise
  rw [v37_apply]

/-- The two gradients, joined on the kind axis, are the layer's pre-activation gradients. -/
theorem v55_apply (n : Fin 65536) (k : Fin 2) (f : Fin 4864) : val_main_v55 (F := Ideal) x1 x3 x5 x7 r0 r1 r2 r3 (ix3 n k f)
    = Val.dgu (Val.tok r0 x1) (Val.tok r1 x3) (Val.wgu r2 x5) (Val.wdown r3 x7) n k f := by
  unfold val_main_v55 val_main_v54 val_main_v52 val_main_v53 Val.dgu
  rw [← v49_apply, ← v51_apply]
  pointwise
  fin_cases k <;> rfl

/-- Its second result is the layer's gradient in the gate and up weights. -/
theorem v58_apply (j : Fin 3584) (k : Fin 2) (f : Fin 4864) : val_main_v58 (F := Ideal) x1 x3 x5 x7 r0 r1 r2 r3 (ix3 j k f)
    = Val.dwgu (Val.tok r0 x1) (Val.tok r1 x3) (Val.wgu r2 x5) (Val.wdown r3 x7) j k f := by
  unfold val_main_v58 Val.dwgu
  simp only [← v19_apply, ← v55_apply]
  generalize val_main_v19 (F := Ideal) x1 r0 = a
  generalize val_main_v55 (F := Ideal) x1 x3 x5 x7 r0 r1 r2 r3 = b
  pointwise

/-- Its third result is the layer's gradient in the down weights. -/
theorem v59_apply (f : Fin 4864) (j : Fin 3584) : val_main_v59 (F := Ideal) x1 x3 x5 r0 r1 r2 (ix2 f j)
    = Val.dwd (Val.tok r0 x1) (Val.tok r1 x3) (Val.wgu r2 x5) f j := by
  unfold val_main_v59 Val.dwd
  simp only [← v40_apply, ← v26_apply]
  generalize val_main_v40 (F := Ideal) x1 x5 r0 r2 = a
  generalize val_main_v26 (F := Ideal) x3 r1 = b
  pointwise

/-- Its first result is the layer's gradient in the tokens. -/
theorem v60_apply (b : Fin 16) (p : Fin 4096) (j : Fin 3584) : val_main_v60 (F := Ideal) x1 x3 x5 x7 r0 r1 r2 r3 (ix3 b p j)
    = Val.dx (Val.tok r0 x1) (Val.tok r1 x3) (Val.wgu r2 x5) (Val.wdown r3 x7) (Val.tokenOf b p) j := by
  unfold val_main_v60 val_main_v57 val_main_v56 Val.dx
  simp only [← v6_apply, ← v55_apply]
  generalize val_main_v6 (F := Ideal) x5 r2 = a
  generalize val_main_v55 (F := Ideal) x1 x3 x5 x7 r0 r1 r2 r3 = d
  pointwise
  rfl

end Cert.ReferenceIdeal.Hand

end
-- ==== Proof.Value.RefResults.lean ====
/- The reference's three results on extended reals are the layer's three gradients of its arguments. -/
module

public import proofs.«01_k».proof.Proof.Value.RefRegion
public import proofs.«01_k».proof.Proof.Value.RefRead

@[expose] public section

set_option maxRecDepth 16384

noncomputable section

namespace Cert.ReferenceIdeal.Hand

open Idealize.ShloMosaic Idealize.ShloMosaic.TcCoe Idealize.ShloMosaic.Tactic
open Cert.ReferenceIdeal.Value Cert.ReferenceIdeal.Read

variable (m : (ℓ : Loc nD τ sig) → Buf (Elt Ideal) ℓ) (c : Dev nD)

/-- The reference's tokens, dequantized. -/
abbrev argX := Val.tok (m ((c : Thread nD τ).loc main_arg0)) (m ((c : Thread nD τ).loc main_arg1))
/-- The reference's upstream gradients, dequantized. -/
abbrev argY := Val.tok (m ((c : Thread nD τ).loc main_arg2)) (m ((c : Thread nD τ).loc main_arg3))
/-- The reference's gate and up weights, dequantized. -/
abbrev argWg := Val.wgu (m ((c : Thread nD τ).loc main_arg4)) (m ((c : Thread nD τ).loc main_arg5))
/-- The reference's down weights, dequantized. -/
abbrev argWd := Val.wdown (m ((c : Thread nD τ).loc main_arg6)) (m ((c : Thread nD τ).loc main_arg7))

/-- The reference's first result is the gradient in the tokens. -/
theorem fin_v60 : val_main_v60 (F := Ideal) (exitV m c (Proc.devRef .tc main_arg1)) (exitV m c (Proc.devRef .tc main_arg3)) (exitV m c (Proc.devRef .tc main_arg5)) (exitV m c (Proc.devRef .tc main_arg7)) (exitV m c (Proc.devRef .tc main_v0_0)) (exitV m c (Proc.devRef .tc main_v0_1)) (exitV m c (Proc.devRef .tc main_v0_2)) (exitV m c (Proc.devRef .tc main_v0_3))
    = fun i : S16x4096x3584.Idx => Val.dx (argX m c) (argY m c) (argWg m c) (argWd m c) (Val.tokenOf (i 0) (i 1)) (i 2) := by
  rw [exit_main_arg1, exit_main_arg3, exit_main_arg5, exit_main_arg7, exit_main_v0_0, exit_main_v0_1,
    exit_main_v0_2, exit_main_v0_3, reg0, reg1, reg2, reg3]
  funext i
  obtain ⟨b, p, j, rfl⟩ : ∃ (b : Fin 16) (p : Fin 4096) (j : Fin 3584), i = ix3 b p j := ⟨i 0, i 1, i 2, by funext a; fin_cases a <;> rfl⟩
  exact v60_apply _ _ _ _ _ _ _ _ b p j

/-- The reference's second result is the gradient in the gate and up weights. -/
theorem fin_v58 : val_main_v58 (F := Ideal) (exitV m c (Proc.devRef .tc main_arg1)) (exitV m c (Proc.devRef .tc main_arg3)) (exitV m c (Proc.devRef .tc main_arg5)) (exitV m c (Proc.devRef .tc main_arg7)) (exitV m c (Proc.devRef .tc main_v0_0)) (exitV m c (Proc.devRef .tc main_v0_1)) (exitV m c (Proc.devRef .tc main_v0_2)) (exitV m c (Proc.devRef .tc main_v0_3))
    = fun i : S3584x2x4864.Idx => Val.dwgu (argX m c) (argY m c) (argWg m c) (argWd m c) (i 0) (i 1) (i 2) := by
  rw [exit_main_arg1, exit_main_arg3, exit_main_arg5, exit_main_arg7, exit_main_v0_0, exit_main_v0_1,
    exit_main_v0_2, exit_main_v0_3, reg0, reg1, reg2, reg3]
  funext i
  obtain ⟨j, k, f, rfl⟩ : ∃ (j : Fin 3584) (k : Fin 2) (f : Fin 4864), i = ix3 j k f := ⟨i 0, i 1, i 2, by funext a; fin_cases a <;> rfl⟩
  exact v58_apply _ _ _ _ _ _ _ _ j k f

/-- The reference's third result is the gradient in the down weights. -/
theorem fin_v59 : val_main_v59 (F := Ideal) (exitV m c (Proc.devRef .tc main_arg1)) (exitV m c (Proc.devRef .tc main_arg3)) (exitV m c (Proc.devRef .tc main_arg5)) (exitV m c (Proc.devRef .tc main_v0_0)) (exitV m c (Proc.devRef .tc main_v0_1)) (exitV m c (Proc.devRef .tc main_v0_2))
    = fun i : S4864x3584.Idx => Val.dwd (argX m c) (argY m c) (argWg m c) (i 0) (i 1) := by
  rw [exit_main_arg1, exit_main_arg3, exit_main_arg5, exit_main_v0_0, exit_main_v0_1, exit_main_v0_2,
    reg0, reg1, reg2]
  funext i
  obtain ⟨f, j, rfl⟩ : ∃ (f : Fin 4864) (j : Fin 3584), i = ix2 f j := ⟨i 0, i 1, by funext a; fin_cases a <;> rfl⟩
  exact v59_apply _ _ _ _ _ _ f j

end Cert.ReferenceIdeal.Hand

end
-- ==== Proof.Value.Algebraic.lean ====
/- The value claim: on extended reals the kernel and the reference, given the same arguments, hold the same three results. -/
module

public import proofs.«01_k».proof.Defs
public import proofs.«01_k».proof.Proof.Value.Results
public import proofs.«01_k».proof.Proof.Value.RefResults

@[expose] public section

set_option maxRecDepth 16384

noncomputable section

namespace Cert.Proof

open Idealize.ShloMosaic Idealize.ShloMosaic.TcCoe Idealize.SL.Sem

/-- Every execution of the kernel ends with its three result arrays holding the layer's three gradients of its arguments, and
    its arguments as they were. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v20)
        = (fun i : Cert.KernelIdeal.S16x4096x3584.Idx => Val.dx (Cert.KernelIdeal.Hand.argX m c) (Cert.KernelIdeal.Hand.argY m c) (Cert.KernelIdeal.Hand.argWg m c) (Cert.KernelIdeal.Hand.argWd m c) (Val.tokenOf (i 0) (i 1)) (i 2))
      ∧ r.2.mem ((c.tc : Thread Cert.KernelIdeal.nD Cert.KernelIdeal.τ).loc Cert.KernelIdeal.main_v19)
        = (fun i : Cert.KernelIdeal.S3584x2x4864.Idx => Val.dwgu (Cert.KernelIdeal.Hand.argX m c) (Cert.KernelIdeal.Hand.argY m c) (Cert.KernelIdeal.Hand.argWg m c) (Cert.KernelIdeal.Hand.argWd m c) (i 0) (i 1) (i 2))
      ∧ r.2.mem ((c.tc : Thread Cert.KernelIdeal.nD Cert.KernelIdeal.τ).loc Cert.KernelIdeal.main_v15_3)
        = (fun i : Cert.KernelIdeal.S4864x3584.Idx => Val.dwd (Cert.KernelIdeal.Hand.argX m c) (Cert.KernelIdeal.Hand.argY m c) (Cert.KernelIdeal.Hand.argWg m c) (i 0) (i 1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run _ _ _).mono (fun _ h c =>
      ⟨(h.1 c _ (Cert.KernelIdeal.Hand.mem_uc Cert.KernelIdeal.main_v20 (by decide))).trans (Cert.KernelIdeal.Hand.res_v20 m ρ c),
       (h.1 c _ (Cert.KernelIdeal.Hand.mem_uc Cert.KernelIdeal.main_v19 (by decide))).trans (Cert.KernelIdeal.Hand.res_v19 m ρ c),
       (h.1 c _ (Cert.KernelIdeal.Hand.mem_uc Cert.KernelIdeal.main_v15_3 (by decide))).trans (Cert.KernelIdeal.Hand.res_v15_3 m ρ c),
       (h.1 c _ (Cert.KernelIdeal.Hand.mem_uc Cert.KernelIdeal.main_arg0 (by decide))).trans (Cert.KernelIdeal.Hand.W4_main_arg0 m ρ c),
       (h.1 c _ (Cert.KernelIdeal.Hand.mem_uc Cert.KernelIdeal.main_arg1 (by decide))).trans (Cert.KernelIdeal.Hand.W4_main_arg1 m ρ c),
       (h.1 c _ (Cert.KernelIdeal.Hand.mem_uc Cert.KernelIdeal.main_arg2 (by decide))).trans (Cert.KernelIdeal.Hand.W4_main_arg2 m ρ c),
       (h.1 c _ (Cert.KernelIdeal.Hand.mem_uc Cert.KernelIdeal.main_arg3 (by decide))).trans (Cert.KernelIdeal.Hand.W4_main_arg3 m ρ c),
       (h.1 c _ (Cert.KernelIdeal.Hand.mem_uc Cert.KernelIdeal.main_arg4 (by decide))).trans (Cert.KernelIdeal.Hand.W4_main_arg4 m ρ c),
       (h.1 c _ (Cert.KernelIdeal.Hand.mem_uc Cert.KernelIdeal.main_arg5 (by decide))).trans (Cert.KernelIdeal.Hand.W4_main_arg5 m ρ c),
       (h.1 c _ (Cert.KernelIdeal.Hand.mem_uc Cert.KernelIdeal.main_arg6 (by decide))).trans (Cert.KernelIdeal.Hand.W4_main_arg6 m ρ c),
       (h.1 c _ (Cert.KernelIdeal.Hand.mem_uc Cert.KernelIdeal.main_arg7 (by decide))).trans (Cert.KernelIdeal.Hand.W4_main_arg7 m ρ c)⟩) (Cert.KernelIdeal.Hand.run m ρ)

/-- The value claim: there are three arrays that every execution of the kernel and every execution of the reference, from equal
    arguments, leave as their results. -/
theorem algebraic : Cert.algebraic_KernelIdeal_ReferenceIdeal (hKernelIdeal := Cert.KernelIdeal.Gen.facts) (hReferenceIdeal := Cert.ReferenceIdeal.Gen.facts) := by
  intro m g m' g' _ heq
  refine ⟨_, _, _, kernel_run m g, (θ_run _ _ _).mono (fun _ h c => ?_) (Cert.ReferenceIdeal.Value.run (F := Ideal) m' g')⟩
  obtain ⟨e0, e1, e2, e3, e4, e5, e6, e7⟩ := heq c
  obtain ⟨h60, h58, h59, ha⟩ := h c
  refine ⟨h60.trans ((Cert.ReferenceIdeal.Read.val_main_v60_eq (F := Ideal) (Cert.ReferenceIdeal.Value.exitV m' c)).trans ((Cert.ReferenceIdeal.Hand.fin_v60 m' c).trans ?_)),
    h58.trans ((Cert.ReferenceIdeal.Read.val_main_v58_eq (F := Ideal) (Cert.ReferenceIdeal.Value.exitV m' c)).trans ((Cert.ReferenceIdeal.Hand.fin_v58 m' c).trans ?_)),
    h59.trans ((Cert.ReferenceIdeal.Read.val_main_v59_eq (F := Ideal) (Cert.ReferenceIdeal.Value.exitV m' c)).trans ((Cert.ReferenceIdeal.Hand.fin_v59 m' c).trans ?_)), ha⟩
  · simp only [Cert.ReferenceIdeal.Hand.argX, Cert.ReferenceIdeal.Hand.argY, Cert.ReferenceIdeal.Hand.argWg, Cert.ReferenceIdeal.Hand.argWd, e0, e1, e2, e3, e4, e5, e6, e7]
  · simp only [Cert.ReferenceIdeal.Hand.argX, Cert.ReferenceIdeal.Hand.argY, Cert.ReferenceIdeal.Hand.argWg, Cert.ReferenceIdeal.Hand.argWd, e0, e1, e2, e3, e4, e5, e6, e7]
  · simp only [Cert.ReferenceIdeal.Hand.argX, Cert.ReferenceIdeal.Hand.argY, Cert.ReferenceIdeal.Hand.argWg, e0, e1, e2, e3, e4, e5]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
